-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits_warm_temperatures [hPre_finite_logits_warm_temperatures : Cert.Pre_finite_logits_warm_temperatures.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits_warm_temperatures.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits_warm_temperatures [hPre_finite_logits_warm_temperatures : Cert.Pre_finite_logits_warm_temperatures.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits_warm_temperatures.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits_warm_temperatures [hKernelIdeal : Cert.KernelIdeal.Facts] [hPre_finite_logits_warm_temperatures : Cert.Pre_finite_logits_warm_temperatures.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits_warm_temperatures m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits_warm_temperatures [hReferenceIdeal : Cert.ReferenceIdeal.Facts] [hPre_finite_logits_warm_temperatures : Cert.Pre_finite_logits_warm_temperatures.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits_warm_temperatures m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_logits_warm_temperatures [hKernelIdeal : Cert.KernelIdeal.Facts] [hReferenceIdeal : Cert.ReferenceIdeal.Facts] [hPre_finite_logits_warm_temperatures : Cert.Pre_finite_logits_warm_temperatures.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits_warm_temperatures m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_logits_warm_temperatures : Cert.Pre_finite_logits_warm_temperatures.Facts),
    quiescent_Kernel (hKernel := hKernel)
    ∧ quiescent_KernelIdeal (hKernelIdeal := hKernelIdeal)
    ∧ quiescent_KernelIdeal_pre_finite_logits_warm_temperatures (hKernelIdeal := hKernelIdeal) (hPre_finite_logits_warm_temperatures := hPre_finite_logits_warm_temperatures)
    ∧ quiescent_ReferenceIdeal (hReferenceIdeal := hReferenceIdeal)
    ∧ quiescent_ReferenceIdeal_pre_finite_logits_warm_temperatures (hReferenceIdeal := hReferenceIdeal) (hPre_finite_logits_warm_temperatures := hPre_finite_logits_warm_temperatures)
    ∧ preserves_Kernel_KernelIdeal
    ∧ algebraic_KernelIdeal_ReferenceIdeal_pre_finite_logits_warm_temperatures (hKernelIdeal := hKernelIdeal) (hReferenceIdeal := hReferenceIdeal) (hPre_finite_logits_warm_temperatures := hPre_finite_logits_warm_temperatures)
-- ==== Pre_finite_logits_warm_temperatures.lean ====
abbrev S128x100000 : Shape := ⟨2, ![128, 100000]⟩
abbrev S128 : Shape := ⟨1, ![128]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) (main_arg1 : FVec F S128 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_cst_0 : FVec F S_ .f32 := constant S_ .f32 0x00000000#32
  let main_v4 : FVec F S128 .f32 := broadcastInDim S128 ![] bcast_S_S128 main_cst_0
  let main_v5 : IVec S128 1 := cmpf .une main_arg1 main_v4
  let main_c_1 : IVec S_ 1 := constantI S_ 1 1#1
  let main_v6 : IVec S_ 1 := (fun x v => Host.reduce IntOp.andi x v reducesTo_S128_S_d0 h_S_) main_v5 main_c_1
  let main_v7 : IVec S_ 1 := andi main_v3 main_v6
  main_v7
-- ==== Kernel.lean ====
abbrev S128x100000 : Shape := ⟨2, ![128, 100000]⟩
abbrev S128 : Shape := ⟨1, ![128]⟩
abbrev S128x1 : Shape := ⟨2, ![128, 1]⟩
abbrev S8x32768 : Shape := ⟨2, ![8, 32768]⟩
abbrev S8x1 : Shape := ⟨2, ![8, 1]⟩
abbrev S8x100000 : Shape := ⟨2, ![8, 100000]⟩
abbrev S8x2048 : Shape := ⟨2, ![8, 2048]⟩
abbrev S49x8x2048 : Shape := ⟨3, ![49, 8, 2048]⟩
abbrev S1x8x2048 : Shape := ⟨3, ![1, 8, 2048]⟩
abbrev S8 : Shape := ⟨1, ![8]⟩
abbrev S8x1696 : Shape := ⟨2, ![8, 1696]⟩

abbrev nBuf : Space → Nat
  | .hbm => 6
  | .vmem => 12
  | .smem => 0
  | _ => 0

abbrev bufTy : (tb : Table) → Fin (tcTables nBuf tb) → BufTy
  | .hbm, ⟨0, _⟩ => ⟨S128x100000, .f32⟩
  | .hbm, ⟨1, _⟩ => ⟨S128, .f32⟩
  | .hbm, ⟨2, _⟩ => ⟨S128x1, .f32⟩
  | .hbm, ⟨3, _⟩ => ⟨S128x100000, .f32⟩
  | .hbm, ⟨4, _⟩ => ⟨S128x1, .i32⟩
  | .hbm, ⟨5, _⟩ => ⟨S128, .i32⟩
  | .local _ .vmem, ⟨0, _⟩ => ⟨S8x32768, .f32⟩
  | .local _ .vmem, ⟨1, _⟩ => ⟨S8x32768, .f32⟩
  | .local _ .vmem, ⟨2, _⟩ => ⟨S8x1, .f32⟩
  | .local _ .vmem, ⟨3, _⟩ => ⟨S8x1, .f32⟩
  | .local _ .vmem, ⟨4, _⟩ => ⟨S8x100000, .f32⟩
  | .local _ .vmem, ⟨5, _⟩ => ⟨S8x100000, .f32⟩
  | .local _ .vmem, ⟨6, _⟩ => ⟨S8x1, .i32⟩
  | .local _ .vmem, ⟨7, _⟩ => ⟨S8x1, .i32⟩
  | .local _ .vmem, ⟨8, _⟩ => ⟨S8x2048, .f32⟩
  | .local _ .vmem, ⟨9, _⟩ => ⟨S8x2048, .f32⟩
  | .local _ .vmem, ⟨10, _⟩ => ⟨S8x2048, .i32⟩
  | .local _ .vmem, ⟨11, _⟩ => ⟨S49x8x2048, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .slt arg1 c3_i32
  let v13 : BitVec 32 := Scalar.extui v12
  let c0_i32_2 : BitVec 32 := 0#32
  let v14 : BitVec 1 := Scalar.cmpi .ne v13 c0_i32_2
  v14

def k0_off1 (i : grid0.Coords) (c0_i32_54 : BitVec 32) : Fin 3 → Nat :=
  let arg1 : BitVec 32 := BitVec.ofNat 32 (i 1).val
  let c16_i32_53 : BitVec 32 := 16#32
  let v219 : BitVec 32 := Scalar.muli arg1 c16_i32_53
  let v220 : BitVec 32 := Scalar.addi v219 c0_i32_54
  let v221 : Index := Scalar.indexCast v220
  let c0_55 : Index := 0#32
  let c0_56 : Index := 0#32
  ![v221.toNat, 0, 0]
def k0_cond3 (i : grid0.Coords) : BitVec 1 :=
  let arg1 : BitVec 32 := BitVec.ofNat 32 (i 1).val
  let c3_i32_3 : BitVec 32 := 3#32
  let v15 : BitVec 1 := Scalar.cmpi .eq arg1 c3_i32_3
  let v16 : BitVec 32 := Scalar.extui v15
  let c0_i32_4 : BitVec 32 := 0#32
  let v17 : BitVec 1 := Scalar.cmpi .ne v16 c0_i32_4
  v17

def k0_off2 (i : grid0.Coords) : Fin 3 → Nat :=
  let arg1 : BitVec 32 := BitVec.ofNat 32 (i 1).val
  let c16_i32_56 : BitVec 32 := 16#32
  let v225 : BitVec 32 := Scalar.muli arg1 c16_i32_56
  let c0_i32_57 : BitVec 32 := 0#32
  let v226 : BitVec 32 := Scalar.addi v225 c0_i32_57
  let v227 : Index := Scalar.indexCast v226
  let c0_58 : Index := 0#32
  let c0_59 : Index := 0#32
  ![v227.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S128x100000 : Shape := ⟨2, ![128, 100000]⟩
abbrev S128 : Shape := ⟨1, ![128]⟩
abbrev S_ : Shape := ⟨0, ![]⟩
abbrev S128x1 : Shape := ⟨2, ![128, 1]⟩
abbrev S1 : Shape := ⟨1, ![1]⟩
abbrev S2 : Shape := ⟨1, ![2]⟩
abbrev S1x1 : Shape := ⟨2, ![1, 1]⟩

abbrev nBuf : Space → Nat
  | .hbm => 321
  | .vmem => 0
  | .smem => 0
  | _ => 0

abbrev hbmTy0_0 (i : Nat) : BufTy := match i % 128 with
  | 0 => ⟨S128x100000, .f32⟩
  | 1 => ⟨S128, .f32⟩
  | 2 => ⟨S128x100000, .i32⟩
  | 3 => ⟨S_, .f32⟩
  | 4 => ⟨S_, .i32⟩
  | 5 => ⟨S128, .f32⟩
  | 6 => ⟨S128, .i32⟩
  | 7 => ⟨S_, .f32⟩
  | 8 => ⟨S128, .f32⟩
  | 9 => ⟨S128, .i1⟩
  | 10 => ⟨S_, .f32⟩
  | 11 => ⟨S128, .f32⟩
  | 12 => ⟨S128, .f32⟩
  | 13 => ⟨S128x1, .f32⟩
  | 14 => ⟨S128x100000, .f32⟩
  | 15 => ⟨S128x100000, .f32⟩
  | 16 => ⟨S_, .f32⟩
  | 17 => ⟨S128, .f32⟩
  | 18 => ⟨S_, .f32⟩
  | 19 => ⟨S128, .f32⟩
  | 20 => ⟨S128, .f32⟩
  | 21 => ⟨S128x1, .f32⟩
  | 22 => ⟨S128x100000, .f32⟩
  | 23 => ⟨S128x100000, .f32⟩
  | 24 => ⟨S128x100000, .f32⟩
  | 25 => ⟨S_, .f32⟩
  | 26 => ⟨S128, .f32⟩
  | 27 => ⟨S128x1, .f32⟩
  | 28 => ⟨S128x100000, .f32⟩
  | 29 => ⟨S128x100000, .f32⟩
  | 30 => ⟨S_, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S_, .i32⟩
  | 38 => ⟨S1, .i32⟩
  | 39 => ⟨S2, .i32⟩
  | 40 => ⟨S_, .f32⟩
  | 41 => ⟨S_, .f32⟩
  | 42 => ⟨S_, .f32⟩
  | 43 => ⟨S_, .f32⟩
  | 44 => ⟨S1x1, .f32⟩
  | 45 => ⟨S1x1, .f32⟩
  | 46 => ⟨S1, .i32⟩
  | 47 => ⟨S_, .i32⟩
  | 48 => ⟨S1, .i32⟩
  | 49 => ⟨S_, .i32⟩
  | 50 => ⟨S128x100000, .i64⟩
  | 51 => ⟨S128x100000, .i64⟩
  | 52 => ⟨S_, .i64⟩
  | 53 => ⟨S128x100000, .i64⟩
  | 54 => ⟨S128x100000, .i64⟩
  | 55 => ⟨S_, .i64⟩
  | 56 => ⟨S128x100000, .i64⟩
  | 57 => ⟨S128x100000, .i64⟩
  | 58 => ⟨S128x100000, .i64⟩
  | 59 => ⟨S_, .i64⟩
  | 60 => ⟨S128x100000, .i64⟩
  | 61 => ⟨S128x100000, .i64⟩
  | 62 => ⟨S128x100000, .i32⟩
  | 63 => ⟨S128x100000, .i32⟩
  | 64 => ⟨S_, .i32⟩
  | 65 => ⟨S_, .i32⟩
  | 66 => ⟨S_, .i32⟩
  | 67 => ⟨S128x100000, .i32⟩
  | 68 => ⟨S128x100000, .i32⟩
  | 69 => ⟨S128x100000, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S128x100000, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S128x100000, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S128x100000, .i32⟩
  | 64 => ⟨S128x100000, .i32⟩
  | 65 => ⟨S128x100000, .i32⟩
  | 66 => ⟨S128x100000, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S128x100000, .i32⟩
  | 107 => ⟨S128x100000, .i32⟩
  | 108 => ⟨S128x100000, .i32⟩
  | 109 => ⟨S128x100000, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_2 (i : Nat) : BufTy := match i % 128 with
  | 0 => ⟨S_, .i32⟩
  | 1 => ⟨S128x100000, .i32⟩
  | 2 => ⟨S128x100000, .i32⟩
  | 3 => ⟨S128x100000, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S128x100000, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S128x100000, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .f32⟩
  | 38 => ⟨S_, .f32⟩
  | 39 => ⟨S128x100000, .f32⟩
  | 40 => ⟨S128x100000, .f32⟩
  | 41 => ⟨S1x1, .f32⟩
  | 42 => ⟨S128x100000, .f32⟩
  | 43 => ⟨S128x100000, .f32⟩
  | 44 => ⟨S128x100000, .f32⟩
  | 45 => ⟨S128x100000, .f32⟩
  | 46 => ⟨S128x100000, .f32⟩
  | 47 => ⟨S128x100000, .f32⟩
  | 48 => ⟨S_, .f32⟩
  | 49 => ⟨S128x100000, .f32⟩
  | 50 => ⟨S128x100000, .f32⟩
  | 51 => ⟨S128x100000, .f32⟩
  | 52 => ⟨S128x100000, .f32⟩
  | 53 => ⟨S128x100000, .f32⟩
  | 54 => ⟨S128x100000, .f32⟩
  | 55 => ⟨S128x100000, .f32⟩
  | 56 => ⟨S128x100000, .i32⟩
  | 57 => ⟨S_, .f32⟩
  | 58 => ⟨S_, .i32⟩
  | 59 => ⟨S128, .f32⟩
  | 60 => ⟨S128, .i32⟩
  | 61 => ⟨S_, .f32⟩
  | 62 => ⟨S128, .f32⟩
  | 63 => ⟨S128, .i1⟩
  | 64 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_cst_7 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_c : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_call2_c_1 : Ref sig .tc := ⟨.hbm, 59, rfl⟩
abbrev main_call2_v15 : Ref sig .tc := ⟨.hbm, 60, rfl⟩
abbrev main_call2_v16 : Ref sig .tc := ⟨.hbm, 61, rfl⟩
abbrev main_call2_v17 : Ref sig .tc := ⟨.hbm, 62, rfl⟩
abbrev main_call2_v18 : Ref sig .tc := ⟨.hbm, 63, rfl⟩
abbrev main_call2_call0_v0 : Ref sig .tc := ⟨.hbm, 64, rfl⟩
abbrev main_call2_call0_c : Ref sig .tc := ⟨.hbm, 65, rfl⟩
abbrev main_call2_call0_v1 : Ref sig .tc := ⟨.hbm, 66, rfl⟩
abbrev main_call2_call0_v2 : Ref sig .tc := ⟨.hbm, 67, rfl⟩
abbrev main_call2_call0_v3 : Ref sig .tc := ⟨.hbm, 68, rfl⟩
abbrev main_call2_call0_v4 : Ref sig .tc := ⟨.hbm, 69, rfl⟩
abbrev main_call2_call0_v5 : Ref sig .tc := ⟨.hbm, 70, rfl⟩
abbrev main_call2_call0_v6 : Ref sig .tc := ⟨.hbm, 71, rfl⟩
abbrev main_call2_call0_c_0 : Ref sig .tc := ⟨.hbm, 72, rfl⟩
abbrev main_call2_call0_v7 : Ref sig .tc := ⟨.hbm, 73, rfl⟩
abbrev main_call2_call0_v8 : Ref sig .tc := ⟨.hbm, 74, rfl⟩
abbrev main_call2_call0_c_1 : Ref sig .tc := ⟨.hbm, 75, rfl⟩
abbrev main_call2_call0_v9 : Ref sig .tc := ⟨.hbm, 76, rfl⟩
abbrev main_call2_call0_v10 : Ref sig .tc := ⟨.hbm, 77, rfl⟩
abbrev main_call2_call0_v11 : Ref sig .tc := ⟨.hbm, 78, rfl⟩
abbrev main_call2_call0_v12 : Ref sig .tc := ⟨.hbm, 79, rfl⟩
abbrev main_call2_call0_v13 : Ref sig .tc := ⟨.hbm, 80, rfl⟩
abbrev main_call2_call0_c_2 : Ref sig .tc := ⟨.hbm, 81, rfl⟩
abbrev main_call2_call0_v14 : Ref sig .tc := ⟨.hbm, 82, rfl⟩
abbrev main_call2_call0_v15 : Ref sig .tc := ⟨.hbm, 83, rfl⟩
abbrev main_call2_call0_c_3 : Ref sig .tc := ⟨.hbm, 84, rfl⟩
abbrev main_call2_call0_v16 : Ref sig .tc := ⟨.hbm, 85, rfl⟩
abbrev main_call2_call0_v17 : Ref sig .tc := ⟨.hbm, 86, rfl⟩
abbrev main_call2_call0_v18 : Ref sig .tc := ⟨.hbm, 87, rfl⟩
abbrev main_call2_call0_v19 : Ref sig .tc := ⟨.hbm, 88, rfl⟩
abbrev main_call2_call0_v20 : Ref sig .tc := ⟨.hbm, 89, rfl⟩
abbrev main_call2_call0_c_4 : Ref sig .tc := ⟨.hbm, 90, rfl⟩
abbrev main_call2_call0_v21 : Ref sig .tc := ⟨.hbm, 91, rfl⟩
abbrev main_call2_call0_v22 : Ref sig .tc := ⟨.hbm, 92, rfl⟩
abbrev main_call2_call0_c_5 : Ref sig .tc := ⟨.hbm, 93, rfl⟩
abbrev main_call2_call0_v23 : Ref sig .tc := ⟨.hbm, 94, rfl⟩
abbrev main_call2_call0_v24 : Ref sig .tc := ⟨.hbm, 95, rfl⟩
abbrev main_call2_call0_v25 : Ref sig .tc := ⟨.hbm, 96, rfl⟩
abbrev main_call2_call0_v26 : Ref sig .tc := ⟨.hbm, 97, rfl⟩
abbrev main_call2_call0_v27 : Ref sig .tc := ⟨.hbm, 98, rfl⟩
abbrev main_call2_call0_c_6 : Ref sig .tc := ⟨.hbm, 99, rfl⟩
abbrev main_call2_call0_v28 : Ref sig .tc := ⟨.hbm, 100, rfl⟩
abbrev main_call2_call0_v29 : Ref sig .tc := ⟨.hbm, 101, rfl⟩
abbrev main_call2_call0_c_7 : Ref sig .tc := ⟨.hbm, 102, rfl⟩
abbrev main_call2_call0_v30 : Ref sig .tc := ⟨.hbm, 103, rfl⟩
abbrev main_call2_call0_v31 : Ref sig .tc := ⟨.hbm, 104, rfl⟩
abbrev main_call2_call0_v32 : Ref sig .tc := ⟨.hbm, 105, rfl⟩
abbrev main_call2_call0_v33 : Ref sig .tc := ⟨.hbm, 106, rfl⟩
abbrev main_call2_call0_v34 : Ref sig .tc := ⟨.hbm, 107, rfl⟩
abbrev main_call2_call0_v35 : Ref sig .tc := ⟨.hbm, 108, rfl⟩
abbrev main_call2_call0_v36 : Ref sig .tc := ⟨.hbm, 109, rfl⟩
abbrev main_call2_call0_v37 : Ref sig .tc := ⟨.hbm, 110, rfl⟩
abbrev main_call2_call0_c_8 : Ref sig .tc := ⟨.hbm, 111, rfl⟩
abbrev main_call2_call0_v38 : Ref sig .tc := ⟨.hbm, 112, rfl⟩
abbrev main_call2_call0_v39 : Ref sig .tc := ⟨.hbm, 113, rfl⟩
abbrev main_call2_call0_v40 : Ref sig .tc := ⟨.hbm, 114, rfl⟩
abbrev main_call2_call0_c_9 : Ref sig .tc := ⟨.hbm, 115, rfl⟩
abbrev main_call2_call0_v41 : Ref sig .tc := ⟨.hbm, 116, rfl⟩
abbrev main_call2_call0_v42 : Ref sig .tc := ⟨.hbm, 117, rfl⟩
abbrev main_call2_call0_c_10 : Ref sig .tc := ⟨.hbm, 118, rfl⟩
abbrev main_call2_call0_v43 : Ref sig .tc := ⟨.hbm, 119, rfl⟩
abbrev main_call2_call0_v44 : Ref sig .tc := ⟨.hbm, 120, rfl⟩
abbrev main_call2_call0_v45 : Ref sig .tc := ⟨.hbm, 121, rfl⟩
abbrev main_call2_call0_v46 : Ref sig .tc := ⟨.hbm, 122, rfl⟩
abbrev main_call2_call0_v47 : Ref sig .tc := ⟨.hbm, 123, rfl⟩
abbrev main_call2_call0_c_11 : Ref sig .tc := ⟨.hbm, 124, rfl⟩
abbrev main_call2_call0_v48 : Ref sig .tc := ⟨.hbm, 125, rfl⟩
abbrev main_call2_call0_v49 : Ref sig .tc := ⟨.hbm, 126, rfl⟩
abbrev main_call2_call0_c_12 : Ref sig .tc := ⟨.hbm, 127, rfl⟩
abbrev main_call2_call0_v50 : Ref sig .tc := ⟨.hbm, 128, rfl⟩
abbrev main_call2_call0_v51 : Ref sig .tc := ⟨.hbm, 129, rfl⟩
abbrev main_call2_call0_v52 : Ref sig .tc := ⟨.hbm, 130, rfl⟩
abbrev main_call2_call0_v53 : Ref sig .tc := ⟨.hbm, 131, rfl⟩
abbrev main_call2_call0_v54 : Ref sig .tc := ⟨.hbm, 132, rfl⟩
abbrev main_call2_call0_c_13 : Ref sig .tc := ⟨.hbm, 133, rfl⟩
abbrev main_call2_call0_v55 : Ref sig .tc := ⟨.hbm, 134, rfl⟩
abbrev main_call2_call0_v56 : Ref sig .tc := ⟨.hbm, 135, rfl⟩
abbrev main_call2_call0_c_14 : Ref sig .tc := ⟨.hbm, 136, rfl⟩
abbrev main_call2_call0_v57 : Ref sig .tc := ⟨.hbm, 137, rfl⟩
abbrev main_call2_call0_v58 : Ref sig .tc := ⟨.hbm, 138, rfl⟩
abbrev main_call2_call0_v59 : Ref sig .tc := ⟨.hbm, 139, rfl⟩
abbrev main_call2_call0_v60 : Ref sig .tc := ⟨.hbm, 140, rfl⟩
abbrev main_call2_call0_v61 : Ref sig .tc := ⟨.hbm, 141, rfl⟩
abbrev main_call2_call0_c_15 : Ref sig .tc := ⟨.hbm, 142, rfl⟩
abbrev main_call2_call0_v62 : Ref sig .tc := ⟨.hbm, 143, rfl⟩
abbrev main_call2_call0_v63 : Ref sig .tc := ⟨.hbm, 144, rfl⟩
abbrev main_call2_call0_c_16 : Ref sig .tc := ⟨.hbm, 145, rfl⟩
abbrev main_call2_call0_v64 : Ref sig .tc := ⟨.hbm, 146, rfl⟩
abbrev main_call2_call0_v65 : Ref sig .tc := ⟨.hbm, 147, rfl⟩
abbrev main_call2_call0_v66 : Ref sig .tc := ⟨.hbm, 148, rfl⟩
abbrev main_call2_call0_v67 : Ref sig .tc := ⟨.hbm, 149, rfl⟩
abbrev main_call2_call0_v68 : Ref sig .tc := ⟨.hbm, 150, rfl⟩
abbrev main_call2_call0_v69 : Ref sig .tc := ⟨.hbm, 151, rfl⟩
abbrev main_call2_call0_v70 : Ref sig .tc := ⟨.hbm, 152, rfl⟩
abbrev main_call2_call0_v71 : Ref sig .tc := ⟨.hbm, 153, rfl⟩
abbrev main_call2_call0_c_17 : Ref sig .tc := ⟨.hbm, 154, rfl⟩
abbrev main_call2_call0_v72 : Ref sig .tc := ⟨.hbm, 155, rfl⟩
abbrev main_call2_call0_v73 : Ref sig .tc := ⟨.hbm, 156, rfl⟩
abbrev main_call2_call0_v74 : Ref sig .tc := ⟨.hbm, 157, rfl⟩
abbrev main_call2_call0_c_18 : Ref sig .tc := ⟨.hbm, 158, rfl⟩
abbrev main_call2_call0_v75 : Ref sig .tc := ⟨.hbm, 159, rfl⟩
abbrev main_call2_call0_v76 : Ref sig .tc := ⟨.hbm, 160, rfl⟩
abbrev main_call2_call0_c_19 : Ref sig .tc := ⟨.hbm, 161, rfl⟩
abbrev main_call2_call0_v77 : Ref sig .tc := ⟨.hbm, 162, rfl⟩
abbrev main_call2_call0_v78 : Ref sig .tc := ⟨.hbm, 163, rfl⟩
abbrev main_call2_call0_v79 : Ref sig .tc := ⟨.hbm, 164, rfl⟩
abbrev main_call2_call0_v80 : Ref sig .tc := ⟨.hbm, 165, rfl⟩
abbrev main_call2_call0_v81 : Ref sig .tc := ⟨.hbm, 166, rfl⟩
abbrev main_call2_call0_c_20 : Ref sig .tc := ⟨.hbm, 167, rfl⟩
abbrev main_call2_call0_v82 : Ref sig .tc := ⟨.hbm, 168, rfl⟩
abbrev main_call2_call0_v83 : Ref sig .tc := ⟨.hbm, 169, rfl⟩
abbrev main_call2_call0_c_21 : Ref sig .tc := ⟨.hbm, 170, rfl⟩
abbrev main_call2_call0_v84 : Ref sig .tc := ⟨.hbm, 171, rfl⟩
abbrev main_call2_call0_v85 : Ref sig .tc := ⟨.hbm, 172, rfl⟩
abbrev main_call2_call0_v86 : Ref sig .tc := ⟨.hbm, 173, rfl⟩
abbrev main_call2_call0_v87 : Ref sig .tc := ⟨.hbm, 174, rfl⟩
abbrev main_call2_call0_v88 : Ref sig .tc := ⟨.hbm, 175, rfl⟩
abbrev main_call2_call0_c_22 : Ref sig .tc := ⟨.hbm, 176, rfl⟩
abbrev main_call2_call0_v89 : Ref sig .tc := ⟨.hbm, 177, rfl⟩
abbrev main_call2_call0_v90 : Ref sig .tc := ⟨.hbm, 178, rfl⟩
abbrev main_call2_call0_c_23 : Ref sig .tc := ⟨.hbm, 179, rfl⟩
abbrev main_call2_call0_v91 : Ref sig .tc := ⟨.hbm, 180, rfl⟩
abbrev main_call2_call0_v92 : Ref sig .tc := ⟨.hbm, 181, rfl⟩
abbrev main_call2_call0_v93 : Ref sig .tc := ⟨.hbm, 182, rfl⟩
abbrev main_call2_call0_v94 : Ref sig .tc := ⟨.hbm, 183, rfl⟩
abbrev main_call2_call0_v95 : Ref sig .tc := ⟨.hbm, 184, rfl⟩
abbrev main_call2_call0_c_24 : Ref sig .tc := ⟨.hbm, 185, rfl⟩
abbrev main_call2_call0_v96 : Ref sig .tc := ⟨.hbm, 186, rfl⟩
abbrev main_call2_call0_v97 : Ref sig .tc := ⟨.hbm, 187, rfl⟩
abbrev main_call2_call0_c_25 : Ref sig .tc := ⟨.hbm, 188, rfl⟩
abbrev main_call2_call0_v98 : Ref sig .tc := ⟨.hbm, 189, rfl⟩
abbrev main_call2_call0_v99 : Ref sig .tc := ⟨.hbm, 190, rfl⟩
abbrev main_call2_call0_v100 : Ref sig .tc := ⟨.hbm, 191, rfl⟩
abbrev main_call2_call0_v101 : Ref sig .tc := ⟨.hbm, 192, rfl⟩
abbrev main_call2_call0_v102 : Ref sig .tc := ⟨.hbm, 193, rfl⟩
abbrev main_call2_call0_v103 : Ref sig .tc := ⟨.hbm, 194, rfl⟩
abbrev main_call2_call0_v104 : Ref sig .tc := ⟨.hbm, 195, rfl⟩
abbrev main_call2_call0_v105 : Ref sig .tc := ⟨.hbm, 196, rfl⟩
abbrev main_call2_call0_c_26 : Ref sig .tc := ⟨.hbm, 197, rfl⟩
abbrev main_call2_call0_v106 : Ref sig .tc := ⟨.hbm, 198, rfl⟩
abbrev main_call2_call0_v107 : Ref sig .tc := ⟨.hbm, 199, rfl⟩
abbrev main_call2_call0_v108 : Ref sig .tc := ⟨.hbm, 200, rfl⟩
abbrev main_call2_call0_c_27 : Ref sig .tc := ⟨.hbm, 201, rfl⟩
abbrev main_call2_call0_v109 : Ref sig .tc := ⟨.hbm, 202, rfl⟩
abbrev main_call2_call0_v110 : Ref sig .tc := ⟨.hbm, 203, rfl⟩
abbrev main_call2_call0_c_28 : Ref sig .tc := ⟨.hbm, 204, rfl⟩
abbrev main_call2_call0_v111 : Ref sig .tc := ⟨.hbm, 205, rfl⟩
abbrev main_call2_call0_v112 : Ref sig .tc := ⟨.hbm, 206, rfl⟩
abbrev main_call2_call0_v113 : Ref sig .tc := ⟨.hbm, 207, rfl⟩
abbrev main_call2_call0_v114 : Ref sig .tc := ⟨.hbm, 208, rfl⟩
abbrev main_call2_call0_v115 : Ref sig .tc := ⟨.hbm, 209, rfl⟩
abbrev main_call2_call0_c_29 : Ref sig .tc := ⟨.hbm, 210, rfl⟩
abbrev main_call2_call0_v116 : Ref sig .tc := ⟨.hbm, 211, rfl⟩
abbrev main_call2_call0_v117 : Ref sig .tc := ⟨.hbm, 212, rfl⟩
abbrev main_call2_call0_c_30 : Ref sig .tc := ⟨.hbm, 213, rfl⟩
abbrev main_call2_call0_v118 : Ref sig .tc := ⟨.hbm, 214, rfl⟩
abbrev main_call2_call0_v119 : Ref sig .tc := ⟨.hbm, 215, rfl⟩
abbrev main_call2_call0_v120 : Ref sig .tc := ⟨.hbm, 216, rfl⟩
abbrev main_call2_call0_v121 : Ref sig .tc := ⟨.hbm, 217, rfl⟩
abbrev main_call2_call0_v122 : Ref sig .tc := ⟨.hbm, 218, rfl⟩
abbrev main_call2_call0_c_31 : Ref sig .tc := ⟨.hbm, 219, rfl⟩
abbrev main_call2_call0_v123 : Ref sig .tc := ⟨.hbm, 220, rfl⟩
abbrev main_call2_call0_v124 : Ref sig .tc := ⟨.hbm, 221, rfl⟩
abbrev main_call2_call0_c_32 : Ref sig .tc := ⟨.hbm, 222, rfl⟩
abbrev main_call2_call0_v125 : Ref sig .tc := ⟨.hbm, 223, rfl⟩
abbrev main_call2_call0_v126 : Ref sig .tc := ⟨.hbm, 224, rfl⟩
abbrev main_call2_call0_v127 : Ref sig .tc := ⟨.hbm, 225, rfl⟩
abbrev main_call2_call0_v128 : Ref sig .tc := ⟨.hbm, 226, rfl⟩
abbrev main_call2_call0_v129 : Ref sig .tc := ⟨.hbm, 227, rfl⟩
abbrev main_call2_call0_c_33 : Ref sig .tc := ⟨.hbm, 228, rfl⟩
abbrev main_call2_call0_v130 : Ref sig .tc := ⟨.hbm, 229, rfl⟩
abbrev main_call2_call0_v131 : Ref sig .tc := ⟨.hbm, 230, rfl⟩
abbrev main_call2_call0_c_34 : Ref sig .tc := ⟨.hbm, 231, rfl⟩
abbrev main_call2_call0_v132 : Ref sig .tc := ⟨.hbm, 232, rfl⟩
abbrev main_call2_call0_v133 : Ref sig .tc := ⟨.hbm, 233, rfl⟩
abbrev main_call2_call0_v134 : Ref sig .tc := ⟨.hbm, 234, rfl⟩
abbrev main_call2_call0_v135 : Ref sig .tc := ⟨.hbm, 235, rfl⟩
abbrev main_call2_call0_v136 : Ref sig .tc := ⟨.hbm, 236, rfl⟩
abbrev main_call2_call0_v137 : Ref sig .tc := ⟨.hbm, 237, rfl⟩
abbrev main_call2_call0_v138 : Ref sig .tc := ⟨.hbm, 238, rfl⟩
abbrev main_call2_call0_v139 : Ref sig .tc := ⟨.hbm, 239, rfl⟩
abbrev main_call2_call0_c_35 : Ref sig .tc := ⟨.hbm, 240, rfl⟩
abbrev main_call2_call0_v140 : Ref sig .tc := ⟨.hbm, 241, rfl⟩
abbrev main_call2_call0_v141 : Ref sig .tc := ⟨.hbm, 242, rfl⟩
abbrev main_call2_call0_v142 : Ref sig .tc := ⟨.hbm, 243, rfl⟩
abbrev main_call2_call0_c_36 : Ref sig .tc := ⟨.hbm, 244, rfl⟩
abbrev main_call2_call0_v143 : Ref sig .tc := ⟨.hbm, 245, rfl⟩
abbrev main_call2_call0_v144 : Ref sig .tc := ⟨.hbm, 246, rfl⟩
abbrev main_call2_call0_c_37 : Ref sig .tc := ⟨.hbm, 247, rfl⟩
abbrev main_call2_call0_v145 : Ref sig .tc := ⟨.hbm, 248, rfl⟩
abbrev main_call2_call0_v146 : Ref sig .tc := ⟨.hbm, 249, rfl⟩
abbrev main_call2_call0_v147 : Ref sig .tc := ⟨.hbm, 250, rfl⟩
abbrev main_call2_call0_v148 : Ref sig .tc := ⟨.hbm, 251, rfl⟩
abbrev main_call2_call0_v149 : Ref sig .tc := ⟨.hbm, 252, rfl⟩
abbrev main_call2_call0_c_38 : Ref sig .tc := ⟨.hbm, 253, rfl⟩
abbrev main_call2_call0_v150 : Ref sig .tc := ⟨.hbm, 254, rfl⟩
abbrev main_call2_call0_v151 : Ref sig .tc := ⟨.hbm, 255, rfl⟩
abbrev main_call2_call0_c_39 : Ref sig .tc := ⟨.hbm, 256, rfl⟩
abbrev main_call2_call0_v152 : Ref sig .tc := ⟨.hbm, 257, rfl⟩
abbrev main_call2_call0_v153 : Ref sig .tc := ⟨.hbm, 258, rfl⟩
abbrev main_call2_call0_v154 : Ref sig .tc := ⟨.hbm, 259, rfl⟩
abbrev main_call2_call0_v155 : Ref sig .tc := ⟨.hbm, 260, rfl⟩
abbrev main_call2_call0_v156 : Ref sig .tc := ⟨.hbm, 261, rfl⟩
abbrev main_call2_call0_c_40 : Ref sig .tc := ⟨.hbm, 262, rfl⟩
abbrev main_call2_call0_v157 : Ref sig .tc := ⟨.hbm, 263, rfl⟩
abbrev main_call2_call0_v158 : Ref sig .tc := ⟨.hbm, 264, rfl⟩
abbrev main_call2_call0_c_41 : Ref sig .tc := ⟨.hbm, 265, rfl⟩
abbrev main_call2_call0_v159 : Ref sig .tc := ⟨.hbm, 266, rfl⟩
abbrev main_call2_call0_v160 : Ref sig .tc := ⟨.hbm, 267, rfl⟩
abbrev main_call2_call0_v161 : Ref sig .tc := ⟨.hbm, 268, rfl⟩
abbrev main_call2_call0_v162 : Ref sig .tc := ⟨.hbm, 269, rfl⟩
abbrev main_call2_call0_v163 : Ref sig .tc := ⟨.hbm, 270, rfl⟩
abbrev main_call2_call0_c_42 : Ref sig .tc := ⟨.hbm, 271, rfl⟩
abbrev main_call2_call0_v164 : Ref sig .tc := ⟨.hbm, 272, rfl⟩
abbrev main_call2_call0_v165 : Ref sig .tc := ⟨.hbm, 273, rfl⟩
abbrev main_call2_call0_c_43 : Ref sig .tc := ⟨.hbm, 274, rfl⟩
abbrev main_call2_call0_v166 : Ref sig .tc := ⟨.hbm, 275, rfl⟩
abbrev main_call2_call0_v167 : Ref sig .tc := ⟨.hbm, 276, rfl⟩
abbrev main_call2_call0_v168 : Ref sig .tc := ⟨.hbm, 277, rfl⟩
abbrev main_call2_call0_v169 : Ref sig .tc := ⟨.hbm, 278, rfl⟩
abbrev main_call2_call0_v170 : Ref sig .tc := ⟨.hbm, 279, rfl⟩
abbrev main_call2_v19_0 : Ref sig .tc := ⟨.hbm, 280, rfl⟩
abbrev main_call2_call0_v172 : Ref sig .tc := ⟨.hbm, 281, rfl⟩
abbrev main_call2_call0_v173 : Ref sig .tc := ⟨.hbm, 282, rfl⟩
abbrev main_call2_call0_c_44 : Ref sig .tc := ⟨.hbm, 283, rfl⟩
abbrev main_call2_call0_v174 : Ref sig .tc := ⟨.hbm, 284, rfl⟩
abbrev main_call2_v19_1 : Ref sig .tc := ⟨.hbm, 285, rfl⟩
abbrev main_call2_v20 : Ref sig .tc := ⟨.hbm, 286, rfl⟩
abbrev main_call2_c_2 : Ref sig .tc := ⟨.hbm, 287, rfl⟩
abbrev main_call2_v21 : Ref sig .tc := ⟨.hbm, 288, rfl⟩
abbrev main_call2_v22 : Ref sig .tc := ⟨.hbm, 289, rfl⟩
abbrev main_call2_c_3 : Ref sig .tc := ⟨.hbm, 290, rfl⟩
abbrev main_call2_v23 : Ref sig .tc := ⟨.hbm, 291, rfl⟩
abbrev main_call2_v24 : Ref sig .tc := ⟨.hbm, 292, rfl⟩
abbrev main_call2_v25 : Ref sig .tc := ⟨.hbm, 293, rfl⟩
abbrev main_call2_cst : Ref sig .tc := ⟨.hbm, 294, rfl⟩
abbrev main_call2_v26 : Ref sig .tc := ⟨.hbm, 295, rfl⟩
abbrev main_call2_v27 : Ref sig .tc := ⟨.hbm, 296, rfl⟩
abbrev main_call2_v28 : Ref sig .tc := ⟨.hbm, 297, rfl⟩
abbrev main_call2_v29 : Ref sig .tc := ⟨.hbm, 298, rfl⟩
abbrev main_call2_v30 : Ref sig .tc := ⟨.hbm, 299, rfl⟩
abbrev main_call2_v31 : Ref sig .tc := ⟨.hbm, 300, rfl⟩
abbrev main_call2_v32 : Ref sig .tc := ⟨.hbm, 301, rfl⟩
abbrev main_call2_v33 : Ref sig .tc := ⟨.hbm, 302, rfl⟩
abbrev main_v26 : Ref sig .tc := ⟨.hbm, 303, rfl⟩
abbrev main_cst_8 : Ref sig .tc := ⟨.hbm, 304, rfl⟩
abbrev main_v27 : Ref sig .tc := ⟨.hbm, 305, rfl⟩
abbrev main_v28 : Ref sig .tc := ⟨.hbm, 306, rfl⟩
abbrev main_v29 : Ref sig .tc := ⟨.hbm, 307, rfl⟩
abbrev main_v30 : Ref sig .tc := ⟨.hbm, 308, rfl⟩
abbrev main_v31 : Ref sig .tc := ⟨.hbm, 309, rfl⟩
abbrev main_v32 : Ref sig .tc := ⟨.hbm, 310, rfl⟩
abbrev main_v33 : Ref sig .tc := ⟨.hbm, 311, rfl⟩
abbrev main_call3_v0 : Ref sig .tc := ⟨.hbm, 312, rfl⟩
abbrev main_call3_cst : Ref sig .tc := ⟨.hbm, 313, rfl⟩
abbrev main_call3_c : Ref sig .tc := ⟨.hbm, 314, rfl⟩
abbrev main_call3_v1_0 : Ref sig .tc := ⟨.hbm, 315, rfl⟩
abbrev main_v34 : Ref sig .tc := ⟨.hbm, 316, rfl⟩
abbrev main_cst_9 : Ref sig .tc := ⟨.hbm, 317, rfl⟩
abbrev main_v35 : Ref sig .tc := ⟨.hbm, 318, rfl⟩
abbrev main_v36 : Ref sig .tc := ⟨.hbm, 319, rfl⟩
abbrev main_v37 : Ref sig .tc := ⟨.hbm, 320, rfl⟩

abbrev nD : Nat := 1
abbrev τ : Topo := Topo.v7x

variable {F : FTy → Type} [FloatOps F]
-- ==== Proof.Vec.lean ====
/-
  The sampler's arithmetic, stated on its 8×2048 vectors: the Threefry counter hash, the noise made from its
  bits, what one column chunk contributes, and the merge of sixteen chunks — each as a function of the vectors it
  is computed from. The kernel's own computations are matched with these by definitional unfolding (`Body…`).
-/
module

public import proofs.«01_k».proof.Proof.Gen.KernelIdeal.Skeleton

@[expose] public section

noncomputable section

namespace Cert.Proof

open Cert.KernelIdeal Cert.KernelIdeal.Gen
open Idealize.ShloMosaic
open Idealize.ShloMosaic.TcCoe

variable {F : FTy → Type} [FloatOps F]

/-- One Threefry round on a pair of counter words, lane by lane: rotate left by `r` (and `s = 32 - r`). -/
def rndV (r s : BitVec 32) (p : IVec S8x2048 32 × IVec S8x2048 32) : IVec S8x2048 32 × IVec S8x2048 32 :=
  (addi p.1 p.2, xori (ori (shli p.2 (broadcast S8x2048 r)) (shrui p.2 (broadcast S8x2048 s))) (addi p.1 p.2))

/-- Four rounds of the first rotation schedule. -/
def quadA (p : IVec S8x2048 32 × IVec S8x2048 32) : IVec S8x2048 32 × IVec S8x2048 32 :=
  rndV 6#32 26#32 (rndV 26#32 6#32 (rndV 15#32 17#32 (rndV 13#32 19#32 p)))

/-- Four rounds of the second rotation schedule. -/
def quadB (p : IVec S8x2048 32 × IVec S8x2048 32) : IVec S8x2048 32 × IVec S8x2048 32 :=
  rndV 24#32 8#32 (rndV 16#32 16#32 (rndV 29#32 3#32 (rndV 17#32 15#32 p)))

/-- The key words added between the groups of rounds, and the group's number. -/
def injV (a b n : BitVec 32) (p : IVec S8x2048 32 × IVec S8x2048 32) : IVec S8x2048 32 × IVec S8x2048 32 :=
  (addi p.1 (broadcast S8x2048 a), addi (addi p.2 (broadcast S8x2048 b)) (broadcast S8x2048 n))

/-- The Threefry hash of the counters `(0, idx)` under the key `(0, 42)`. -/
def hashV (idx : IVec S8x2048 32) : IVec S8x2048 32 × IVec S8x2048 32 :=
  injV 466689008#32 0#32 5#32 <| quadA <| injV 42#32 466689008#32 4#32 <| quadB <| injV 0#32 42#32 3#32 <| quadA <|
    injV 466689008#32 0#32 2#32 <| quadB <| injV 42#32 466689008#32 1#32 <| quadA
      (addi (broadcast S8x2048 0#32) (broadcast S8x2048 0#32), addi idx (broadcast S8x2048 42#32))

/-- The Gumbel noise of 32 random bits per lane. -/
def gumbelV (bits : IVec S8x2048 32) : FVec F S8x2048 .f32 :=
  subf (broadcast S8x2048 (Scalar.ofBits .f32 0x00000000#32)) (log (subf (broadcast S8x2048 (Scalar.ofBits .f32 0x00000000#32))
    (log (maximumf (broadcast S8x2048 (Scalar.ofBits .f32 0x00800000#32))
      (subf (bitcastToFloat .f32 (ori (shrui bits (broadcast S8x2048 9#32)) (broadcast S8x2048 1065353216#32)))
        (broadcast S8x2048 (Scalar.ofBits .f32 0x3F800000#32)))))))

/-- The two hash words, xored: the random bits. -/
def bitsV (idx : IVec S8x2048 32) : IVec S8x2048 32 := xori (hashV idx).1 (hashV idx).2

/-- The logits of a chunk over the rows' temperatures. -/
def scaledV (t : FVec F S8x1 .f32) (x : Vec F S8x2048 .f32) : FVec F S8x2048 .f32 :=
  divf x (broadcastTo S8x2048 t broadcasts_S8x1_S8x2048)

/-- The columns of the chunk at offset `o` of the point's block. -/
def colV (i : grid0.Coords) (o : BitVec 32) : IVec S8x2048 32 :=
  addi (broadcast S8x2048 (Scalar.addi (Scalar.muli (BitVec.ofNat 32 (i 1).val) 32768#32) o)) (iota .tc S8x2048 32 [1] iota_S8x2048_d1_w32)

/-- What a lane of the chunk is ranked by: noise plus scaled logit. -/
def valV (i : grid0.Coords) (o : BitVec 32) (t : FVec F S8x1 .f32) (x : Vec F S8x2048 .f32) : FVec F S8x2048 .f32 :=
  addf (gumbelV (bitsV (addi (k0_pay5 i) (colV i o)))) (scaledV t x)

/-- The exponentials of the chunk's scaled logits. -/
def expV (t : FVec F S8x1 .f32) (x : Vec F S8x2048 .f32) : FVec F S8x2048 .f32 := exp (scaledV t x)

/-- The sum of the vectors `e 0, …, e k`, in that order. -/
def sumOf (e : Fin 16 → FVec F S8x2048 .f32) : Nat → FVec F S8x2048 .f32
  | 0 => e 0
  | k + 1 => addf (sumOf e k) (e (Fin.ofNat 16 (k + 1)))

/-- The greatest of `v 0, …, v k`, lane by lane. -/
def bestOf (v : Fin 16 → FVec F S8x2048 .f32) : Nat → FVec F S8x2048 .f32
  | 0 => v 0
  | k + 1 => select (cmpf .ogt (v (Fin.ofNat 16 (k + 1))) (bestOf v k)) (v (Fin.ofNat 16 (k + 1))) (bestOf v k)

/-- The column `d` of the first chunk at which the greatest of `v 0, …, v k` is met, lane by lane. -/
def argOf (v : Fin 16 → FVec F S8x2048 .f32) (d : Fin 16 → IVec S8x2048 32) : Nat → IVec S8x2048 32
  | 0 => d 0
  | k + 1 => select (cmpf .ogt (v (Fin.ofNat 16 (k + 1))) (bestOf v k)) (d (Fin.ofNat 16 (k + 1))) (argOf v d k)

/-- The ranks of chunk `k` of a point's block `x`. -/
def valAt (i : grid0.Coords) (t : FVec F S8x1 .f32) (x : Nat → Vec F S8x2048 .f32) (k : Fin 16) : FVec F S8x2048 .f32 :=
  valV i (BitVec.ofNat 32 (2048 * k.val)) t (x k.val)

/-- The exponentials of chunk `k` of a point's block `x`. -/
def expAt (t : FVec F S8x1 .f32) (x : Nat → Vec F S8x2048 .f32) (k : Fin 16) : FVec F S8x2048 .f32 := expV t (x k.val)

/-- The columns of chunk `k` of a point's block. -/
def colAt (i : grid0.Coords) (k : Fin 16) : IVec S8x2048 32 := colV i (BitVec.ofNat 32 (2048 * k.val))

/-- The running sums after a full block's point. -/
def fullSum (t : FVec F S8x1 .f32) (x : Nat → Vec F S8x2048 .f32) (s : FVec F S8x2048 .f32) : FVec F S8x2048 .f32 :=
  addf s (sumOf (expAt t x) 15)

/-- The running greatest ranks after a full block's point. -/
def fullBest (i : grid0.Coords) (t : FVec F S8x1 .f32) (x : Nat → Vec F S8x2048 .f32) (b : FVec F S8x2048 .f32) : FVec F S8x2048 .f32 :=
  select (cmpf .ogt (bestOf (valAt i t x) 15) b) (bestOf (valAt i t x) 15) b

/-- The running columns of the greatest ranks after a full block's point. -/
def fullArg (i : grid0.Coords) (t : FVec F S8x1 .f32) (x : Nat → Vec F S8x2048 .f32) (b : FVec F S8x2048 .f32) (g : IVec S8x2048 32) : IVec S8x2048 32 :=
  select (cmpf .ogt (bestOf (valAt i t x) 15) b) (argOf (valAt i t x) (colAt i) 15) g

/-- The lanes of the last block that are columns of the array. -/
def tailMask (i : grid0.Coords) : IVec S8x2048 1 := cmpi .slt (colV i 0#32) (broadcast S8x2048 100000#32)

/-- The ranks of the last block: −∞ past the array's end. -/
def tailVal (i : grid0.Coords) (t : FVec F S8x1 .f32) (x : Vec F S8x2048 .f32) : FVec F S8x2048 .f32 :=
  select (tailMask i) (valV i 0#32 t x) (broadcast S8x2048 (Scalar.ofBits .f32 0xFF800000#32))

/-- The exponentials of the last block: 0 past the array's end. -/
def tailExp (i : grid0.Coords) (t : FVec F S8x1 .f32) (x : Vec F S8x2048 .f32) : FVec F S8x2048 .f32 :=
  select (tailMask i) (expV t x) (broadcast S8x2048 (Scalar.ofBits .f32 0x00000000#32))

/-- The running sums after the last block's point. -/
def tailSum (i : grid0.Coords) (t : FVec F S8x1 .f32) (x : Vec F S8x2048 .f32) (s : FVec F S8x2048 .f32) : FVec F S8x2048 .f32 :=
  addf s (tailExp i t x)

/-- The running greatest ranks after the last block's point. -/
def tailBest (i : grid0.Coords) (t : FVec F S8x1 .f32) (x : Vec F S8x2048 .f32) (b : FVec F S8x2048 .f32) : FVec F S8x2048 .f32 :=
  select (cmpf .ogt (tailVal i t x) b) (tailVal i t x) b

/-- The running columns of the greatest ranks after the last block's point. -/
def tailArg (i : grid0.Coords) (t : FVec F S8x1 .f32) (x : Vec F S8x2048 .f32) (b : FVec F S8x2048 .f32) (g : IVec S8x2048 32) : IVec S8x2048 32 :=
  select (cmpf .ogt (tailVal i t x) b) (colV i 0#32) g

/-- The sums before a row block's first point: 0. -/
def initSum : FVec F S8x2048 .f32 := broadcast S8x2048 (Scalar.ofBits .f32 0x00000000#32)

/-- The greatest ranks before a row block's first point: −∞. -/
def initBest : FVec F S8x2048 .f32 := broadcast S8x2048 (Scalar.ofBits .f32 0xFF800000#32)

/-- The columns before a row block's first point: 0. -/
def initArg : IVec S8x2048 32 := broadcast S8x2048 0#32

/-- The reciprocal of each row's sum. -/
def invSum (s : FVec F S8x2048 .f32) : FVec F S8x1 .f32 :=
  divf (broadcast S8x1 (Scalar.ofBits .f32 0x3F800000#32))
    (shapeCast S8x1 (multiReduction .add [1] S8 s 0x00000000#32 reduces_S8x2048_S8 (.inl rfl) rfl) shapeCasts_S8_S8x1)

/-- Each row's token: the least column among the lanes at which the row's greatest rank is met. -/
def tokV (b : FVec F S8x2048 .f32) (g : IVec S8x2048 32) : IVec S8x1 32 :=
  shapeCast S8x1 (multiReductionI .minsi [1] S8
    (select (cmpf .oeq b (broadcastTo S8x2048 (shapeCast S8x1 (multiReduction .maximumf [1] S8 b 0xFF800000#32 reduces_S8x2048_S8 (.inl rfl) rfl) shapeCasts_S8_S8x1) broadcasts_S8x1_S8x2048))
      g (broadcast S8x2048 2147483647#32)) 2147483647#32 reduces_S8x2048_S8 rfl) shapeCasts_S8_S8x1

/-! ## The printed merges, as the folds -/

section Merge

variable (v e : Fin 16 → FVec F S8x2048 .f32) (d : Fin 16 → IVec S8x2048 32) (s b : FVec F S8x2048 .f32) (g : IVec S8x2048 32)

/-- The printed sum of sixteen chunks, added to what the accumulator held. -/
theorem mergeSum : k0_pay792 (e 6) (e 7) (e 8) (e 9) (e 10) (e 11) (e 12) (e 13) (e 14) (e 15)
      (k0_pay768 (e 0) (e 1) (e 2) (e 3) (e 4) (e 5)) s
    = shapeCast S8x2048 (addf s (sumOf e 15)) shapeCasts_S8x2048_S8x2048 := rfl

/-- One more chunk's greatest. -/
theorem bestOf_step (k : Nat) (w : FVec F S8x2048 .f32) (h : w = bestOf v k) :
    select (cmpf .ogt (v (Fin.ofNat 16 (k + 1))) w) (v (Fin.ofNat 16 (k + 1))) w = bestOf v (k + 1) := by
  subst h; rfl

/-- One more chunk's column of the greatest. -/
theorem argOf_step (k : Nat) (w : FVec F S8x2048 .f32) (u : IVec S8x2048 32) (h : w = bestOf v k) (h' : u = argOf v d k) :
    select (cmpf .ogt (v (Fin.ofNat 16 (k + 1))) w) (d (Fin.ofNat 16 (k + 1))) u = argOf v d (k + 1) := by
  subst h; subst h'; rfl

/-- The printed greatest of the first 2 chunks. -/
theorem printedBest1 : k0_pay761 (v 0) (v 1) = bestOf v 1 := bestOf_step v 0 _ rfl

/-- The printed greatest of the first 3 chunks. -/
theorem printedBest2 : k0_pay763 (v 0) (v 1) (v 2) = bestOf v 2 := bestOf_step v 1 _ (printedBest1 v)

/-- The printed greatest of the first 4 chunks. -/
theorem printedBest3 : k0_pay765 (v 0) (v 1) (v 2) (v 3) = bestOf v 3 := bestOf_step v 2 _ (printedBest2 v)

/-- The printed greatest of the first 5 chunks. -/
theorem printedBest4 : k0_pay767 (v 0) (v 1) (v 2) (v 3) (v 4) = bestOf v 4 := bestOf_step v 3 _ (printedBest3 v)

/-- The printed greatest of the first 6 chunks. -/
theorem printedBest5 : k0_pay771 (v 0) (v 1) (v 2) (v 3) (v 4) (v 5) = bestOf v 5 := bestOf_step v 4 _ (printedBest4 v)

/-- The printed greatest of the first 7 chunks. -/
theorem printedBest6 : k0_pay773 (v 6) (k0_pay771 (v 0) (v 1) (v 2) (v 3) (v 4) (v 5)) = bestOf v 6 := bestOf_step v 5 _ (printedBest5 v)

/-- The printed greatest of the first 8 chunks. -/
theorem printedBest7 : k0_pay775 (v 6) (v 7) (k0_pay771 (v 0) (v 1) (v 2) (v 3) (v 4) (v 5)) = bestOf v 7 := bestOf_step v 6 _ (printedBest6 v)

/-- The printed greatest of the first 9 chunks. -/
theorem printedBest8 : k0_pay777 (v 6) (v 7) (v 8) (k0_pay771 (v 0) (v 1) (v 2) (v 3) (v 4) (v 5)) = bestOf v 8 := bestOf_step v 7 _ (printedBest7 v)

/-- The printed greatest of the first 10 chunks. -/
theorem printedBest9 : k0_pay779 (v 6) (v 7) (v 8) (v 9) (k0_pay771 (v 0) (v 1) (v 2) (v 3) (v 4) (v 5)) = bestOf v 9 := bestOf_step v 8 _ (printedBest8 v)

/-- The printed greatest of the first 11 chunks. -/
theorem printedBest10 : k0_pay781 (v 6) (v 7) (v 8) (v 9) (v 10) (k0_pay771 (v 0) (v 1) (v 2) (v 3) (v 4) (v 5)) = bestOf v 10 := bestOf_step v 9 _ (printedBest9 v)

/-- The printed greatest of the first 12 chunks. -/
theorem printedBest11 : k0_pay783 (v 6) (v 7) (v 8) (v 9) (v 10) (v 11) (k0_pay771 (v 0) (v 1) (v 2) (v 3) (v 4) (v 5)) = bestOf v 11 := bestOf_step v 10 _ (printedBest10 v)

/-- The printed greatest of the first 13 chunks. -/
theorem printedBest12 : k0_pay785 (v 6) (v 7) (v 8) (v 9) (v 10) (v 11) (v 12) (k0_pay771 (v 0) (v 1) (v 2) (v 3) (v 4) (v 5)) = bestOf v 12 := bestOf_step v 11 _ (printedBest11 v)

/-- The printed greatest of the first 14 chunks. -/
theorem printedBest13 : k0_pay787 (v 6) (v 7) (v 8) (v 9) (v 10) (v 11) (v 12) (v 13) (k0_pay771 (v 0) (v 1) (v 2) (v 3) (v 4) (v 5)) = bestOf v 13 := bestOf_step v 12 _ (printedBest12 v)

/-- The printed greatest of the first 15 chunks. -/
theorem printedBest14 : k0_pay789 (v 6) (v 7) (v 8) (v 9) (v 10) (v 11) (v 12) (v 13) (v 14) (k0_pay771 (v 0) (v 1) (v 2) (v 3) (v 4) (v 5)) = bestOf v 14 := bestOf_step v 13 _ (printedBest13 v)

/-- The printed greatest of the first 16 chunks. -/
theorem printedBest15 : k0_pay791 (v 6) (v 7) (v 8) (v 9) (v 10) (v 11) (v 12) (v 13) (v 14) (v 15) (k0_pay771 (v 0) (v 1) (v 2) (v 3) (v 4) (v 5)) = bestOf v 15 := bestOf_step v 14 _ (printedBest14 v)

/-- The printed comparison of the sixteen chunks' greatest with what the accumulator held. -/
theorem mergeBetter : k0_pay793 (v 6) (v 7) (v 8) (v 9) (v 10) (v 11) (v 12) (v 13) (v 14) (v 15)
      (k0_pay771 (v 0) (v 1) (v 2) (v 3) (v 4) (v 5)) b = cmpf .ogt (bestOf v 15) b := congrArg (fun w => cmpf .ogt w b) (printedBest15 v)

/-- The printed column of the greatest of the first six chunks. -/
theorem printedArg5 : k0_pay770 (d 0) (v 0) (d 1) (v 1) (d 2) (v 2) (d 3) (v 3) (d 4) (v 4) (d 5) (v 5) = argOf v d 5 :=
  argOf_step v d 4 _ _ (printedBest4 v) (argOf_step v d 3 _ _ (printedBest3 v) (argOf_step v d 2 _ _ (printedBest2 v) (argOf_step v d 1 _ _ (printedBest1 v) (argOf_step v d 0 _ _ rfl rfl))))

/-- The printed column of the greatest, over sixteen chunks and what the accumulators held. -/
theorem mergeArg : k0_pay794 (d 6) (v 6) (d 7) (v 7) (d 8) (v 8) (d 9) (v 9) (d 10) (v 10) (d 11) (v 11) (d 12) (v 12) (d 13) (v 13) (d 14) (v 14) (d 15) (v 15)
      (k0_pay770 (d 0) (v 0) (d 1) (v 1) (d 2) (v 2) (d 3) (v 3) (d 4) (v 4) (d 5) (v 5)) (k0_pay771 (v 0) (v 1) (v 2) (v 3) (v 4) (v 5)) b g
    = select (cmpf .ogt (bestOf v 15) b) (argOf v d 15) g :=
  congrArg₂ (fun w u => select w u g) (mergeBetter v b)
    (argOf_step v d 14 _ _ (printedBest14 v) (argOf_step v d 13 _ _ (printedBest13 v) (argOf_step v d 12 _ _ (printedBest12 v) (argOf_step v d 11 _ _ (printedBest11 v) (argOf_step v d 10 _ _ (printedBest10 v) (argOf_step v d 9 _ _ (printedBest9 v) (argOf_step v d 8 _ _ (printedBest8 v) (argOf_step v d 7 _ _ (printedBest7 v) (argOf_step v d 6 _ _ (printedBest6 v) (argOf_step v d 5 _ _ (printedBest5 v) (printedArg5 v d)))))))))))

end Merge

end Cert.Proof

end
-- ==== Proof.Setup.lean ====
/-
  What the runs of the kernel body share: the resource algebra, a memref held whole, and the values a point reads
  from its logits and temperatures blocks.
-/
module

public import proofs.«01_k».proof.Proof.Vec
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the pipeline's cells: the kernel has no cell of its own. -/
abbrev UR (nD : Nat) (τ : Topo) : Type := URounds (GSem nD τ sig) Unit

local notation "𝕄" => MT nD τ sig Unit (Elt F) ℕ (UR nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M` held on core `c`, its buffer at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- A chunk lies within its block. -/
theorem chunk_inb (k : Nat) : ∀ a, (![0, 2048 * (k % 16)] : Fin 2 → Nat) a + S8x2048.size a ≤ S8x32768.size a := by
  have := Nat.mod_lt k (show 0 < 16 by decide)
  refine Fin.forall_fin_two.2 ⟨?_, ?_⟩
  · show 0 + 8 ≤ 8
    omega
  · show 2048 * (k % 16) + 2048 ≤ 32768
    omega

/-- Chunk `k` of the logits block that a memref holds. -/
def chunkOf (c : Dev nD) (arg2 : Memref sig .tc .vmem S8x32768 .f32) (f2 : Bf (F := F) c arg2) (k : Nat) : Vec F S8x2048 .f32 :=
  View.readAt (Elt F) arg2.view (Rect.unit (s := S8x32768) ![0, 2048 * (k % 16)] S8x2048.size (chunk_inb k)).toLoadRect f2

/-- The temperatures that a memref holds. -/
def tempsOf (c : Dev nD) (arg3 : Memref sig .tc .vmem S8x1 .f32) (f3 : Bf (F := F) c arg3) : FVec F S8x1 .f32 :=
  k0_pay1 (View.readAt (Elt F) arg3.view (Rect.unit (s := S8x1) ![0, 0] S8x1.size inb_S8x1_S8x1_0_0).toLoadRect f3)

/-- The whole of an 8×2048 memref, read. -/
def readFull {e : EltTy} (c : Dev nD) (M : Memref sig .tc .vmem S8x2048 e) (f : Bf (F := F) c M) : Vec F S8x2048 e :=
  View.readAt (Elt F) M.view (Rect.unit (s := S8x2048) ![0, 0] S8x2048.size inb_S8x2048_S8x2048_0_0).toLoadRect f

end Cert.Proof

end
-- ==== Proof.Fill.lean ====
/-
  Buffers written piece by piece: the block of exponentials that a point fills chunk by chunk, and the block of
  probabilities that a row block's last point fills chunk by chunk. Each lemma says what one more piece adds.
-/
module

public import proofs.«01_k».proof.Proof.Setup
public import Idealize.ShloMosaic.Lib.WritesUnit
public import Idealize.ShloMosaic.Lib.VecWindow
public import Idealize.ShloMosaic.Lib.ValueIdxCore
public import Idealize.ShloMosaic.Lib.Pipeline.Value

@[expose] public section

noncomputable section

namespace Cert.Proof

open Cert.KernelIdeal Cert.KernelIdeal.Gen
open Idealize.ShloMosaic
open Idealize.ShloMosaic.TcCoe Idealize.ShloMosaic.ValueIdx

variable {F : FTy → Type} [FloatOps F]

/-- The exponentials' buffer `g` after chunks `b, …, b + n - 1` are set to `e 0, …, e (n - 1)`. -/
def esFill (b n : Nat) (e : Nat → FVec F S8x2048 .f32) (g : Vec F S49x8x2048 .f32) : Vec F S49x8x2048 .f32 :=
  fun y => if b ≤ (y 0).val ∧ (y 0).val < b + n then e ((y 0).val - b) (ix2 (y 1) (y 2)) else g y

/-- Setting no chunk changes nothing. -/
theorem esFill_zero (b : Nat) (e : Nat → FVec F S8x2048 .f32) (g : Vec F S49x8x2048 .f32) : esFill b 0 e g = g := by
  funext y
  exact if_neg (by omega)

/-- One more chunk stored. -/
theorem esFill_step (M : Memref sig .tc .vmem S49x8x2048 .f32) (f : M.view.ty.Contents (Elt F)) (b n : Nat)
    (e : Nat → FVec F S8x2048 .f32) (g : Vec F S49x8x2048 .f32) {off : Fin 3 → Nat}
    (inb : ∀ a, off a + S1x8x2048.size a ≤ S49x8x2048.size a) (P : (Rect.unit (s := S49x8x2048) off S1x8x2048.size inb).shape.Idx → Elt F .f32)
    (L : List (View.Piece (Elt F) S49x8x2048 .f32)) (hoff : off = ![b + n, 0, 0])
    (hP : P = shapeCast S1x8x2048 (e n) shapeCasts_S8x2048_S1x8x2048)
    (hL : M.view.read (Elt F) (M.view.writes (Elt F) f L) = esFill b n e g) :
    M.view.read (Elt F) (M.view.writes (Elt F) f (⟨Rect.unit (s := S49x8x2048) off S1x8x2048.size inb, P⟩ :: L)) = esFill b (n + 1) e g := by
  funext y
  have y1 := (y 1).isLt
  have y2 := (y 2).isLt
  by_cases h : (y 0).val = b + n
  · rw [View.read_writes_cons_unit_of_mem M.view f inb P L y (ix3 (n0 := 1) (n1 := 8) (n2 := 2048) 0 (y 1) (y 2)) hoff
      (Fin.forall_fin_succ.2 ⟨h, Fin.forall_fin_two.2 ⟨(Nat.zero_add _).symm, (Nat.zero_add _).symm⟩⟩), hP,
      shapeCast_addUnit_apply ![8, 2048]]
    unfold esFill
    rw [if_pos (by omega), show (y 0).val - b = n by omega]
    exact congrArg (e n) (funext (Fin.forall_fin_two.2 ⟨rfl, rfl⟩))
  · rw [View.read_writes_cons_unit_of_not_mem M.view f inb P L y hoff 0 (by
      rcases Nat.lt_or_gt_of_ne h with h | h
      · exact .inl h
      · exact .inr h), hL]
    unfold esFill
    by_cases h' : b ≤ (y 0).val ∧ (y 0).val < b + n
    · rw [if_pos h', if_pos (by omega)]
    · rw [if_neg h', if_neg (by omega)]

/-- A column of eight spread over rows of any width, read at an index. -/
theorem colTo_apply {α : Type} {W : Nat} (q : S8x1.Idx → α) (h : S8x1.Broadcasts ⟨2, ![8, W]⟩) (z : (⟨2, ![8, W]⟩ : Shape).Idx) :
    broadcastTo ⟨2, ![8, W]⟩ q h z = q (ix2 (z 0) 0) :=
  broadcastTo_apply q h z (ix2 (z 0) 0) (Fin.forall_fin_two.2 ⟨rfl, rfl⟩)

/-- The exponentials, each times its row's factor. -/
def probV (p : Vec F S49x8x2048 .f32) (q : FVec F S8x1 .f32) : Vec F S8x100000 .f32 := fun y =>
  FloatOps.mulf (p (ix3 ⟨(y 1).val / 2048, by have := (y 1).isLt; show _ < 49; change (y 1).val < 100000 at this; omega⟩ (y 0)
    ⟨(y 1).val % 2048, Nat.mod_lt _ (by decide)⟩)) (q (ix2 (y 0) 0))

/-- The probabilities' block `g` after its first `n` columns are set. -/
def probFill (n : Nat) (p : Vec F S49x8x2048 .f32) (q : FVec F S8x1 .f32) (g : Vec F S8x100000 .f32) : Vec F S8x100000 .f32 :=
  fun y => if (y 1).val < n then probV p q y else g y

/-- Setting no column changes nothing. -/
theorem probFill_zero (p : Vec F S49x8x2048 .f32) (q : FVec F S8x1 .f32) (g : Vec F S8x100000 .f32) : probFill 0 p q g = g := by
  funext y
  exact if_neg (Nat.not_lt_zero _)

/-- Setting every column leaves nothing of what was there. -/
theorem probFill_all (p : Vec F S49x8x2048 .f32) (q : FVec F S8x1 .f32) (g : Vec F S8x100000 .f32) :
    probFill 100000 p q g = probV p q := by
  funext y
  exact if_pos (y 1).isLt

/-- The chunk `n` of the exponentials' buffer, read at row `r` and lane `l`. -/
theorem chunk_read (M9 : Memref sig .tc .vmem S49x8x2048 .f32) (f9 : M9.view.ty.Contents (Elt F)) (p : Vec F S49x8x2048 .f32)
    (hp : M9.view.read (Elt F) f9 = p) (n : Nat) (inb9 : ∀ a, (![n, 0, 0] : Fin 3 → Nat) a + S1x8x2048.size a ≤ S49x8x2048.size a)
    (h : S1x8x2048.ShapeCasts S8x2048) (z : S8x2048.Idx) (hn : n < 49) :
    shapeCast S8x2048 (View.readAt (Elt F) M9.view (Rect.unit (s := S49x8x2048) ![n, 0, 0] S1x8x2048.size inb9).toLoadRect f9) h z
      = p (ix3 ⟨n, hn⟩ (z 0) (z 1)) := by
  refine (shapeCast_dropUnit_apply ![8, 2048] _ h z).trans ?_
  subst hp
  refine congrArg (M9.view.read (Elt F) f9) (funext (Fin.forall_fin_succ.2 ⟨Fin.ext ?_, Fin.forall_fin_two.2 ⟨Fin.ext ?_, Fin.ext ?_⟩⟩))
  · show n + 1 * 0 = n
    omega
  · show 0 + 1 * (z 0).val = (z 0).val
    omega
  · show 0 + 1 * (z 1).val = (z 1).val
    omega

/-- One more chunk of probabilities stored. -/
theorem probFill_step (M : Memref sig .tc .vmem S8x100000 .f32) (f : M.view.ty.Contents (Elt F))
    (M9 : Memref sig .tc .vmem S49x8x2048 .f32) (f9 : M9.view.ty.Contents (Elt F)) (p : Vec F S49x8x2048 .f32)
    (hp : M9.view.read (Elt F) f9 = p) (q : FVec F S8x1 .f32) (g : Vec F S8x100000 .f32) (n : Nat)
    (inb : ∀ a, (![0, 2048 * n] : Fin 2 → Nat) a + S8x2048.size a ≤ S8x100000.size a)
    (inb9 : ∀ a, (![n, 0, 0] : Fin 3 → Nat) a + S1x8x2048.size a ≤ S49x8x2048.size a)
    (P : (Rect.unit (s := S8x100000) ![0, 2048 * n] S8x2048.size inb).shape.Idx → Elt F .f32)
    (L : List (View.Piece (Elt F) S8x100000 .f32))
    (hP : P = mulf (shapeCast S8x2048 (View.readAt (Elt F) M9.view (Rect.unit (s := S49x8x2048) ![n, 0, 0] S1x8x2048.size inb9).toLoadRect f9)
      shapeCasts_S1x8x2048_S8x2048) (broadcastTo S8x2048 q broadcasts_S8x1_S8x2048))
    (hL : M.view.read (Elt F) (M.view.writes (Elt F) f L) = probFill (2048 * n) p q g) :
    M.view.read (Elt F) (M.view.writes (Elt F) f (⟨Rect.unit (s := S8x100000) ![0, 2048 * n] S8x2048.size inb, P⟩ :: L))
      = probFill (2048 * (n + 1)) p q g := by
  funext y
  have hn : n < 49 := by have : n + 1 ≤ 49 := inb9 0; omega
  by_cases h : 2048 * n ≤ (y 1).val ∧ (y 1).val < 2048 * (n + 1)
  · have hz : (y 1).val - 2048 * n < 2048 := by omega
    rw [View.read_writes_cons_unit_of_mem M.view f inb P L y (ix2 (n0 := 8) (n1 := 2048) (y 0) ⟨(y 1).val - 2048 * n, hz⟩) rfl
      (Fin.forall_fin_two.2 ⟨(Nat.zero_add _).symm, by show (y 1).val = 2048 * n + ((y 1).val - 2048 * n); omega⟩), hP]
    unfold probFill
    rw [if_pos h.2]
    refine congrArg₂ FloatOps.mulf ((chunk_read M9 f9 p hp n inb9 _ _ hn).trans ?_)
      (colTo_apply q _ _)
    refine congrArg p (congrArg₂ (fun a b => ix3 a (y 0) b) (Fin.ext ?_) (Fin.ext ?_))
    · show n = (y 1).val / 2048
      omega
    · show (y 1).val - 2048 * n = (y 1).val % 2048
      omega
  · rw [View.read_writes_cons_unit_of_not_mem M.view f inb P L y rfl 1 (by
      show (y 1).val < 2048 * n ∨ 2048 * n + 2048 ≤ (y 1).val
      omega), hL]
    unfold probFill
    by_cases h' : (y 1).val < 2048 * n
    · rw [if_pos h', if_pos (by omega)]
    · rw [if_neg h', if_neg (by omega)]

/-- The last, narrower chunk of probabilities stored. -/
theorem probFill_last (M : Memref sig .tc .vmem S8x100000 .f32) (f : M.view.ty.Contents (Elt F))
    (M9 : Memref sig .tc .vmem S49x8x2048 .f32) (f9 : M9.view.ty.Contents (Elt F)) (p : Vec F S49x8x2048 .f32)
    (hp : M9.view.read (Elt F) f9 = p) (q : FVec F S8x1 .f32) (g : Vec F S8x100000 .f32)
    (o : Nat) (ho : o = 98304)
    (inb : ∀ a, (![0, o] : Fin 2 → Nat) a + S8x1696.size a ≤ S8x100000.size a)
    (inb9 : ∀ a, (![48, 0, 0] : Fin 3 → Nat) a + S1x8x2048.size a ≤ S49x8x2048.size a)
    (P : (Rect.unit (s := S8x100000) ![0, o] S8x1696.size inb).shape.Idx → Elt F .f32)
    (L : List (View.Piece (Elt F) S8x100000 .f32))
    (hP : P = mulf (extractStridedSlice S8x1696 ![0, 0] (shapeCast S8x2048 (View.readAt (Elt F) M9.view
        (Rect.unit (s := S49x8x2048) ![48, 0, 0] S1x8x2048.size inb9).toLoadRect f9) shapeCasts_S1x8x2048_S8x2048) slices_S8x2048_o0_0_S8x1696)
      (broadcastTo S8x1696 q broadcasts_S8x1_S8x1696))
    (hL : M.view.read (Elt F) (M.view.writes (Elt F) f L) = probFill (2048 * 48) p q g) :
    M.view.read (Elt F) (M.view.writes (Elt F) f (⟨Rect.unit (s := S8x100000) ![0, o] S8x1696.size inb, P⟩ :: L))
      = probV p q := by
  funext y
  have y1 : (y 1).val < 100000 := (y 1).isLt
  by_cases h : o ≤ (y 1).val
  · have hz : (y 1).val - o < 1696 := by omega
    rw [View.read_writes_cons_unit_of_mem M.view f inb P L y (ix2 (n0 := 8) (n1 := 1696) (y 0) ⟨(y 1).val - o, hz⟩) rfl
      (Fin.forall_fin_two.2 ⟨(Nat.zero_add _).symm, by show (y 1).val = o + ((y 1).val - o); omega⟩), hP]
    refine congrArg₂ FloatOps.mulf ((chunk_read M9 f9 p hp 48 inb9 _ _ (by decide)).trans ?_)
      (colTo_apply q _ _)
    refine congrArg p (funext (Fin.forall_fin_succ.2 ⟨Fin.ext ?_, Fin.forall_fin_two.2 ⟨Fin.ext ?_, Fin.ext ?_⟩⟩))
    · show 48 = (y 1).val / 2048
      omega
    · show 0 + (y 0).val = (y 0).val
      omega
    · show 0 + ((y 1).val - o) = (y 1).val % 2048
      omega
  · rw [View.read_writes_cons_unit_of_not_mem M.view f inb P L y rfl 1 (.inl (by
      show (y 1).val < o
      omega)), hL]
    exact if_pos (by omega)

end Cert.Proof

end
-- ==== Proof.Step.lean ====
/-
  A point of the grid as a step on what its memrefs hold: from a run of the kernel body on the buffers' contents to
  the same run stated on the values read from them.
-/
module

public import proofs.«01_k».proof.Proof.Fill
public import Idealize.ShloMosaic.Lib.Pipeline.TableIdle

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- Chunk `k` of a logits block. -/
def chunkX (X : Vec F S8x32768 .f32) (k : Nat) : Vec F S8x2048 .f32 := fun y =>
  X ((Rect.unit (s := S8x32768) ![0, 2048 * (k % 16)] S8x2048.size (chunk_inb k)).toLoadRect.idx y)

/-- The chunk read from a memref is the chunk of what it holds. -/
theorem chunkOf_eq (c : Dev nD) (M : Memref sig .tc .vmem S8x32768 .f32) (f : Bf (F := F) c M) :
    chunkOf c M f = chunkX (M.view.read (Elt F) f) := rfl

/-- The temperatures read from a memref are what it holds. -/
theorem tempsOf_eq (c : Dev nD) (M : Memref sig .tc .vmem S8x1 .f32) (f : Bf (F := F) c M) :
    tempsOf c M f = M.view.read (Elt F) f := by
  unfold tempsOf
  rw [View.readAt_full]
  exact shapeCast_self _ _

/-- An 8×2048 memref read whole is what it holds. -/
theorem readFull_eq {e : EltTy} (c : Dev nD) (M : Memref sig .tc .vmem S8x2048 e) (f : Bf (F := F) c M) :
    readFull c M f = M.view.read (Elt F) f := View.readAt_full M.view f _

section

variable (c : Dev nD) (i : grid0.Coords)
    (arg2 : Memref sig .tc .vmem S8x32768 .f32) (harg2 : arg2.IsWhole) (arg3 : Memref sig .tc .vmem S8x1 .f32) (harg3 : arg3.IsWhole)
    (arg4 : Memref sig .tc .vmem S8x100000 .f32) (harg4 : arg4.IsWhole) (arg5 : Memref sig .tc .vmem S8x1 .i32) (harg5 : arg5.IsWhole)
    (arg6 : Memref sig .tc .vmem S8x2048 .f32) (harg6 : arg6.IsWhole) (arg7 : Memref sig .tc .vmem S8x2048 .f32) (harg7 : arg7.IsWhole)
    (arg8 : Memref sig .tc .vmem S8x2048 .i32) (harg8 : arg8.IsWhole) (arg9 : Memref sig .tc .vmem S49x8x2048 .f32) (harg9 : arg9.IsWhole)

/-- The body runs from the first contents of its eight buffers to the second. -/
def Runs (f2 : Bf (F := F) c arg2) (f3 : Bf (F := F) c arg3)
    (f4 w4 : Bf (F := F) c arg4) (f5 w5 : Bf (F := F) c arg5) (f6 w6 : Bf (F := F) c arg6) (f7 w7 : Bf (F := F) c arg7)
    (f8 w8 : Bf (F := F) c arg8) (f9 w9 : Bf (F := F) c arg9) : Prop :=
  ∀ (E : Set ℕ) (Q : PUnit → sProp 𝕄),
    iprop(pt c arg2 f2 ∗ pt c arg3 f3 ∗ pt c arg4 f4 ∗ pt c arg5 f5 ∗ pt c arg6 f6 ∗ pt c arg7 f7 ∗ pt c arg8 f8 ∗ pt c arg9 f9
      ∗ (iprop(pt c arg2 f2 ∗ pt c arg3 f3 ∗ pt c arg4 w4 ∗ pt c arg5 w5 ∗ pt c arg6 w6 ∗ pt c arg7 w7 ∗ pt c arg8 w8 ∗ pt c arg9 w9) -∗ Q ⟨⟩))
    ⊢ wp frame (wpE (defs₀ (F := F)) Variants.none c none) E
        (cc0__sampler_kernel i arg2 harg2 arg3 harg3 arg4 harg4 arg5 harg5 arg6 harg6 arg7 harg7 arg8 harg8 arg9 harg9) Q

/-- The body takes the values its eight memrefs hold from the first to the second. -/
def Steps (X2 : Vec F S8x32768 .f32) (X3 : Vec F S8x1 .f32) (X4 Y4 : Vec F S8x100000 .f32) (X5 Y5 : Vec F S8x1 .i32)
    (X6 Y6 X7 Y7 : Vec F S8x2048 .f32) (X8 Y8 : Vec F S8x2048 .i32) (X9 Y9 : Vec F S49x8x2048 .f32) : Prop :=
  ∀ (E : Set ℕ) (Q : PUnit → sProp 𝕄),
    iprop(owns c arg2 fullShare X2 ∗ owns c arg3 fullShare X3 ∗ owns c arg4 fullShare X4 ∗ owns c arg5 fullShare X5
      ∗ owns c arg6 fullShare X6 ∗ owns c arg7 fullShare X7 ∗ owns c arg8 fullShare X8 ∗ owns c arg9 fullShare X9
      ∗ (iprop(owns c arg2 fullShare X2 ∗ owns c arg3 fullShare X3 ∗ owns c arg4 fullShare Y4 ∗ owns c arg5 fullShare Y5
          ∗ owns c arg6 fullShare Y6 ∗ owns c arg7 fullShare Y7 ∗ owns c arg8 fullShare Y8 ∗ owns c arg9 fullShare Y9) -∗ Q ⟨⟩))
    ⊢ wp frame (wpE (defs₀ (F := F)) Variants.none c none) E
        (cc0__sampler_kernel i arg2 harg2 arg3 harg3 arg4 harg4 arg5 harg5 arg6 harg6 arg7 harg7 arg8 harg8 arg9 harg9) Q

/-- A memref's buffer held is the memref held at what is read from it. -/
theorem pt_owns {sp : Space} {S : Shape} {e : EltTy} (M : Memref sig .tc sp S e) (f : Bf (F := F) c M) (X : Vec F S e)
    (h : M.view.read (Elt F) f = X) : pt c M f ⊢ (owns c M fullShare X : sProp 𝕄) := by
  unfold owns
  iintro H
  iexists f
  isplitr [H]
  · ipureintro; exact h
  · iexact H

/-- A run on contents is a step on the values read from them. -/
theorem Runs.steps {X2 : Vec F S8x32768 .f32} {X3 : Vec F S8x1 .f32} {X4 Y4 : Vec F S8x100000 .f32} {X5 Y5 : Vec F S8x1 .i32}
    {X6 Y6 X7 Y7 : Vec F S8x2048 .f32} {X8 Y8 : Vec F S8x2048 .i32} {X9 Y9 : Vec F S49x8x2048 .f32}
    {w4 : Bf (F := F) c arg4} {w5 : Bf (F := F) c arg5} {w6 : Bf (F := F) c arg6} {w7 : Bf (F := F) c arg7}
    {w8 : Bf (F := F) c arg8} {w9 : Bf (F := F) c arg9}
    (hrun : Runs c i arg2 harg2 arg3 harg3 arg4 harg4 arg5 harg5 arg6 harg6 arg7 harg7 arg8 harg8 arg9 harg9
      (arg2.view.rep X2) (arg3.view.rep X3) (arg4.view.rep X4) w4 (arg5.view.rep X5) w5 (arg6.view.rep X6) w6
      (arg7.view.rep X7) w7 (arg8.view.rep X8) w8 (arg9.view.rep X9) w9)
    (h4 : arg4.view.read (Elt F) w4 = Y4) (h5 : arg5.view.read (Elt F) w5 = Y5) (h6 : arg6.view.read (Elt F) w6 = Y6)
    (h7 : arg7.view.read (Elt F) w7 = Y7) (h8 : arg8.view.read (Elt F) w8 = Y8) (h9 : arg9.view.read (Elt F) w9 = Y9) :
    Steps c i arg2 harg2 arg3 harg3 arg4 harg4 arg5 harg5 arg6 harg6 arg7 harg7 arg8 harg8 arg9 harg9
      X2 X3 X4 Y4 X5 Y5 X6 Y6 X7 Y7 X8 Y8 X9 Y9 := by
  intro E Q
  rw [owns_eq_rep _ _ _ X2, owns_eq_rep _ _ _ X3, owns_eq_rep _ _ _ X4, owns_eq_rep _ _ _ X5, owns_eq_rep _ _ _ X6,
    owns_eq_rep _ _ _ X7, owns_eq_rep _ _ _ X8, owns_eq_rep _ _ _ X9]
  iintro ⟨H2, H3, H4, H5, H6, H7, H8, H9, Hk⟩
  iapply (hrun E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]; · iexact H2
  isplitl [H3]; · iexact H3
  isplitl [H4]; · iapply (pt_owns c arg4 w4 Y4 h4); iexact H4
  isplitl [H5]; · iapply (pt_owns c arg5 w5 Y5 h5); iexact H5
  isplitl [H6]; · iapply (pt_owns c arg6 w6 Y6 h6); iexact H6
  isplitl [H7]; · iapply (pt_owns c arg7 w7 Y7 h7); iexact H7
  isplitl [H8]; · iapply (pt_owns c arg8 w8 Y8 h8); iexact H8
  iapply (pt_owns c arg9 w9 Y9 h9); iexact H9

end

end Cert.Proof

end
-- ==== Proof.BodyMid.lean ====
/-
  The kernel body at a point that is neither the first nor the last of its row block: it runs, and adds its sixteen
  chunks to the running sums, greatest ranks, columns and exponentials.
-/
module

public import proofs.«01_k».proof.Proof.Step
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- What the middle points leave in the scratch buffers, and that they do. -/
noncomputable def midRun (c : Dev nD) (i : grid0.Coords)
    (h1 : ¬ Scalar.cmpi .ne (Scalar.extui (Scalar.cmpi .eq (BitVec.ofNat 32 (i 1).val) 0#32) : BitVec 32) 0#32 = 1#1)
    (h2 : k0_cond2 i = 1#1) (h3 : ¬ k0_cond3 i = 1#1)
    (arg2 : Memref sig .tc .vmem S8x32768 .f32) (harg2 : arg2.IsWhole) (arg3 : Memref sig .tc .vmem S8x1 .f32) (harg3 : arg3.IsWhole)
    (arg4 : Memref sig .tc .vmem S8x100000 .f32) (harg4 : arg4.IsWhole) (arg5 : Memref sig .tc .vmem S8x1 .i32) (harg5 : arg5.IsWhole)
    (arg6 : Memref sig .tc .vmem S8x2048 .f32) (harg6 : arg6.IsWhole) (arg7 : Memref sig .tc .vmem S8x2048 .f32) (harg7 : arg7.IsWhole)
    (arg8 : Memref sig .tc .vmem S8x2048 .i32) (harg8 : arg8.IsWhole) (arg9 : Memref sig .tc .vmem S49x8x2048 .f32) (harg9 : arg9.IsWhole)
    (f2 : Bf (F := F) c arg2) (f3 : Bf (F := F) c arg3)
    (f6 : Bf (F := F) c arg6) (f7 : Bf (F := F) c arg7) (f8 : Bf (F := F) c arg8) (f9 : Bf (F := F) c arg9) :
    { W : Bf (F := F) c arg6 × Bf (F := F) c arg7 × Bf (F := F) c arg8 × Bf (F := F) c arg9 //
      ∀ (f4 : Bf (F := F) c arg4) (f5 : Bf (F := F) c arg5) (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5
                ∗ pt c arg6 W.1 ∗ pt c arg7 W.2.1 ∗ pt c arg8 W.2.2.1 ∗ pt c arg9 W.2.2.2) -∗ Q ⟨⟩))
        ⊢ wp frame (wpE (defs₀ (F := F)) Variants.none c none) E
            (cc0__sampler_kernel i arg2 harg2 arg3 harg3 arg4 harg4 arg5 harg5 arg6 harg6 arg7 harg7 arg8 harg8 arg9 harg9) Q } := by
  refine ⟨⟨?_, ?_, ?_, ?_⟩, fun f4 f5 E Q => ?run⟩
  case run =>
    iintro ⟨H2, H3, H4, H5, H6, H7, H8, H9, Hk⟩
    sl_exec_parts! (disch := first | sl_exact h1 | sl_exact h2 | sl_exact h3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The run's named values, as the chunk functions -/

section Named

variable (c : Dev nD) (i : grid0.Coords) (arg2 : Memref sig .tc .vmem S8x32768 .f32) (arg3 : Memref sig .tc .vmem S8x1 .f32)
  (f2 : Bf (F := F) c arg2) (f3 : Bf (F := F) c arg3)

set_option maxRecDepth 65536 in
/-- The exponentials the run computes for its sixteen chunks. -/
theorem midExps : midRun.sl.r_5 c arg2 arg3 f2 f3 = expAt (tempsOf c arg3 f3) (chunkOf c arg2 f2) 0
     ∧ midRun.sl.r_11 c arg2 arg3 f2 f3 = expAt (tempsOf c arg3 f3) (chunkOf c arg2 f2) 1
     ∧ midRun.sl.r_17 c arg2 arg3 f2 f3 = expAt (tempsOf c arg3 f3) (chunkOf c arg2 f2) 2
     ∧ midRun.sl.r_23 c arg2 arg3 f2 f3 = expAt (tempsOf c arg3 f3) (chunkOf c arg2 f2) 3
     ∧ midRun.sl.r_29 c arg2 arg3 f2 f3 = expAt (tempsOf c arg3 f3) (chunkOf c arg2 f2) 4
     ∧ midRun.sl.r_35 c arg2 arg3 f2 f3 = expAt (tempsOf c arg3 f3) (chunkOf c arg2 f2) 5
     ∧ midRun.sl.r_41 c arg2 arg3 f2 f3 = expAt (tempsOf c arg3 f3) (chunkOf c arg2 f2) 6
     ∧ midRun.sl.r_47 c arg2 arg3 f2 f3 = expAt (tempsOf c arg3 f3) (chunkOf c arg2 f2) 7
     ∧ midRun.sl.r_53 c arg2 arg3 f2 f3 = expAt (tempsOf c arg3 f3) (chunkOf c arg2 f2) 8
     ∧ midRun.sl.r_59 c arg2 arg3 f2 f3 = expAt (tempsOf c arg3 f3) (chunkOf c arg2 f2) 9
     ∧ midRun.sl.r_65 c arg2 arg3 f2 f3 = expAt (tempsOf c arg3 f3) (chunkOf c arg2 f2) 10
     ∧ midRun.sl.r_71 c arg2 arg3 f2 f3 = expAt (tempsOf c arg3 f3) (chunkOf c arg2 f2) 11
     ∧ midRun.sl.r_77 c arg2 arg3 f2 f3 = expAt (tempsOf c arg3 f3) (chunkOf c arg2 f2) 12
     ∧ midRun.sl.r_83 c arg2 arg3 f2 f3 = expAt (tempsOf c arg3 f3) (chunkOf c arg2 f2) 13
     ∧ midRun.sl.r_89 c arg2 arg3 f2 f3 = expAt (tempsOf c arg3 f3) (chunkOf c arg2 f2) 14
     ∧ midRun.sl.r_95 c arg2 arg3 f2 f3 = expAt (tempsOf c arg3 f3) (chunkOf c arg2 f2) 15
     := by
  refine ⟨?_, ?_, ?_, ?_, ?_, ?_, ?_, ?_, ?_, ?_, ?_, ?_, ?_, ?_, ?_, ?_⟩ <;> rfl

set_option maxRecDepth 65536 in
/-- The ranks the run computes for its sixteen chunks. -/
theorem midVals : midRun.sl.r_4 c i arg2 arg3 f2 f3 = valAt i (tempsOf c arg3 f3) (chunkOf c arg2 f2) 0
     ∧ midRun.sl.r_10 c i arg2 arg3 f2 f3 = valAt i (tempsOf c arg3 f3) (chunkOf c arg2 f2) 1
     ∧ midRun.sl.r_16 c i arg2 arg3 f2 f3 = valAt i (tempsOf c arg3 f3) (chunkOf c arg2 f2) 2
     ∧ midRun.sl.r_22 c i arg2 arg3 f2 f3 = valAt i (tempsOf c arg3 f3) (chunkOf c arg2 f2) 3
     ∧ midRun.sl.r_28 c i arg2 arg3 f2 f3 = valAt i (tempsOf c arg3 f3) (chunkOf c arg2 f2) 4
     ∧ midRun.sl.r_34 c i arg2 arg3 f2 f3 = valAt i (tempsOf c arg3 f3) (chunkOf c arg2 f2) 5
     ∧ midRun.sl.r_40 c i arg2 arg3 f2 f3 = valAt i (tempsOf c arg3 f3) (chunkOf c arg2 f2) 6
     ∧ midRun.sl.r_46 c i arg2 arg3 f2 f3 = valAt i (tempsOf c arg3 f3) (chunkOf c arg2 f2) 7
     ∧ midRun.sl.r_52 c i arg2 arg3 f2 f3 = valAt i (tempsOf c arg3 f3) (chunkOf c arg2 f2) 8
     ∧ midRun.sl.r_58 c i arg2 arg3 f2 f3 = valAt i (tempsOf c arg3 f3) (chunkOf c arg2 f2) 9
     ∧ midRun.sl.r_64 c i arg2 arg3 f2 f3 = valAt i (tempsOf c arg3 f3) (chunkOf c arg2 f2) 10
     ∧ midRun.sl.r_70 c i arg2 arg3 f2 f3 = valAt i (tempsOf c arg3 f3) (chunkOf c arg2 f2) 11
     ∧ midRun.sl.r_76 c i arg2 arg3 f2 f3 = valAt i (tempsOf c arg3 f3) (chunkOf c arg2 f2) 12
     ∧ midRun.sl.r_82 c i arg2 arg3 f2 f3 = valAt i (tempsOf c arg3 f3) (chunkOf c arg2 f2) 13
     ∧ midRun.sl.r_88 c i arg2 arg3 f2 f3 = valAt i (tempsOf c arg3 f3) (chunkOf c arg2 f2) 14
     ∧ midRun.sl.r_94 c i arg2 arg3 f2 f3 = valAt i (tempsOf c arg3 f3) (chunkOf c arg2 f2) 15
     := by
  delta valAt valV gumbelV bitsV hashV injV quadA quadB rndV
  dsimp only
  refine ⟨?_, ?_, ?_, ?_, ?_, ?_, ?_, ?_, ?_, ?_, ?_, ?_, ?_, ?_, ?_, ?_⟩ <;> rfl

set_option maxRecDepth 65536 in
/-- The columns the run computes for its sixteen chunks. -/
theorem midCols : midRun.sl.r_1 i = colAt i 0
     ∧ midRun.sl.r_7 i = colAt i 1
     ∧ midRun.sl.r_13 i = colAt i 2
     ∧ midRun.sl.r_19 i = colAt i 3
     ∧ midRun.sl.r_25 i = colAt i 4
     ∧ midRun.sl.r_31 i = colAt i 5
     ∧ midRun.sl.r_37 i = colAt i 6
     ∧ midRun.sl.r_43 i = colAt i 7
     ∧ midRun.sl.r_49 i = colAt i 8
     ∧ midRun.sl.r_55 i = colAt i 9
     ∧ midRun.sl.r_61 i = colAt i 10
     ∧ midRun.sl.r_67 i = colAt i 11
     ∧ midRun.sl.r_73 i = colAt i 12
     ∧ midRun.sl.r_79 i = colAt i 13
     ∧ midRun.sl.r_85 i = colAt i 14
     ∧ midRun.sl.r_91 i = colAt i 15
     := by
  refine ⟨?_, ?_, ?_, ?_, ?_, ?_, ?_, ?_, ?_, ?_, ?_, ?_, ?_, ?_, ?_, ?_⟩ <;> rfl

/-- The stored sums are the running sums. -/
theorem midSum (s : FVec F S8x2048 .f32) : k0_pay792 (midRun.sl.r_41 c arg2 arg3 f2 f3) (midRun.sl.r_47 c arg2 arg3 f2 f3) (midRun.sl.r_53 c arg2 arg3 f2 f3) (midRun.sl.r_59 c arg2 arg3 f2 f3) (midRun.sl.r_65 c arg2 arg3 f2 f3) (midRun.sl.r_71 c arg2 arg3 f2 f3) (midRun.sl.r_77 c arg2 arg3 f2 f3) (midRun.sl.r_83 c arg2 arg3 f2 f3) (midRun.sl.r_89 c arg2 arg3 f2 f3) (midRun.sl.r_95 c arg2 arg3 f2 f3) (midRun.sl.r_96 c arg2 arg3 f2 f3) s
    = shapeCast S8x2048 (fullSum (tempsOf c arg3 f3) (chunkOf c arg2 f2) s) shapeCasts_S8x2048_S8x2048 := by
  have h := midExps c arg2 arg3 f2 f3
  delta midRun.sl.r_96
  simp only [h]
  exact mergeSum (expAt (tempsOf c arg3 f3) (chunkOf c arg2 f2)) s

/-- The chunks' greatest ranks. -/
theorem midBest : midRun.sl.r_99 c i arg2 arg3 f2 f3 = bestOf (valAt i (tempsOf c arg3 f3) (chunkOf c arg2 f2)) 15 := by
  have h := midVals c i arg2 arg3 f2 f3
  delta midRun.sl.r_99 midRun.sl.r_98
  simp only [h]
  exact printedBest15 _

/-- Where the chunks beat the running greatest. -/
theorem midBetter (arg7 : Memref sig .tc .vmem S8x2048 .f32) (f7 : Bf (F := F) c arg7) :
    midRun.sl.r_100 c i arg2 arg3 arg7 f2 f3 f7
      = cmpf .ogt (bestOf (valAt i (tempsOf c arg3 f3) (chunkOf c arg2 f2)) 15) (readFull c arg7 f7) := by
  have h := midVals c i arg2 arg3 f2 f3
  delta midRun.sl.r_100 midRun.sl.r_98
  simp only [h]
  exact mergeBetter _ _

/-- The stored columns are the running columns. -/
theorem midArg (arg7 : Memref sig .tc .vmem S8x2048 .f32) (f7 : Bf (F := F) c arg7) (arg8 : Memref sig .tc .vmem S8x2048 .i32) (f8 : Bf (F := F) c arg8) :
    midRun.sl.r_101 c i arg2 arg3 arg7 arg8 f2 f3 f7 f8
      = fullArg i (tempsOf c arg3 f3) (chunkOf c arg2 f2) (readFull c arg7 f7) (readFull c arg8 f8) := by
  have h := midVals c i arg2 arg3 f2 f3
  have h' := midCols i
  delta midRun.sl.r_101 midRun.sl.r_97 midRun.sl.r_98
  simp only [h, h']
  exact mergeArg _ _ _ _

end Named

section Steps

variable (c : Dev nD) (i : grid0.Coords)
    (h1 : ¬ Scalar.cmpi .ne (Scalar.extui (Scalar.cmpi .eq (BitVec.ofNat 32 (i 1).val) 0#32) : BitVec 32) 0#32 = 1#1)
    (h2 : k0_cond2 i = 1#1) (h3 : ¬ k0_cond3 i = 1#1)
    (arg2 : Memref sig .tc .vmem S8x32768 .f32) (harg2 : arg2.IsWhole) (arg3 : Memref sig .tc .vmem S8x1 .f32) (harg3 : arg3.IsWhole)
    (arg4 : Memref sig .tc .vmem S8x100000 .f32) (harg4 : arg4.IsWhole) (arg5 : Memref sig .tc .vmem S8x1 .i32) (harg5 : arg5.IsWhole)
    (arg6 : Memref sig .tc .vmem S8x2048 .f32) (harg6 : arg6.IsWhole) (arg7 : Memref sig .tc .vmem S8x2048 .f32) (harg7 : arg7.IsWhole)
    (arg8 : Memref sig .tc .vmem S8x2048 .i32) (harg8 : arg8.IsWhole) (arg9 : Memref sig .tc .vmem S49x8x2048 .f32) (harg9 : arg9.IsWhole)

/-- The stores of a middle point's sixteen chunks of exponentials. -/
theorem midFill (f2 : Bf (F := F) c arg2) (f3 : Bf (F := F) c arg3) (f9 : Bf (F := F) c arg9) :
    arg9.view.read (Elt F) (arg9.view.writes (Elt F) f9 (midRun.sl.H9_16 c i h2 arg2 arg3 f2 f3))
      = esFill (16 * (i 1).val) 16 (fun n => expV (tempsOf c arg3 f3) (chunkOf c arg2 f2 n)) (arg9.view.read (Elt F) f9) :=
  esFill_step arg9 f9 _ 15 _ _ _ _ _ (k0_off1_eq i 15) rfl
    (esFill_step arg9 f9 _ 14 _ _ _ _ _ (k0_off1_eq i 14) rfl
    (esFill_step arg9 f9 _ 13 _ _ _ _ _ (k0_off1_eq i 13) rfl
    (esFill_step arg9 f9 _ 12 _ _ _ _ _ (k0_off1_eq i 12) rfl
    (esFill_step arg9 f9 _ 11 _ _ _ _ _ (k0_off1_eq i 11) rfl
    (esFill_step arg9 f9 _ 10 _ _ _ _ _ (k0_off1_eq i 10) rfl
    (esFill_step arg9 f9 _ 9 _ _ _ _ _ (k0_off1_eq i 9) rfl
    (esFill_step arg9 f9 _ 8 _ _ _ _ _ (k0_off1_eq i 8) rfl
    (esFill_step arg9 f9 _ 7 _ _ _ _ _ (k0_off1_eq i 7) rfl
    (esFill_step arg9 f9 _ 6 _ _ _ _ _ (k0_off1_eq i 6) rfl
    (esFill_step arg9 f9 _ 5 _ _ _ _ _ (k0_off1_eq i 5) rfl
    (esFill_step arg9 f9 _ 4 _ _ _ _ _ (k0_off1_eq i 4) rfl
    (esFill_step arg9 f9 _ 3 _ _ _ _ _ (k0_off1_eq i 3) rfl
    (esFill_step arg9 f9 _ 2 _ _ _ _ _ (k0_off1_eq i 2) rfl
    (esFill_step arg9 f9 _ 1 _ _ _ _ _ (k0_off1_eq i 1) rfl
    (esFill_step arg9 f9 _ 0 _ _ _ _ _ (k0_off1_eq i 0) rfl ((esFill_zero _ _ _).symm))))))))))))))))

/-- What the run leaves, named. -/
theorem midLeft (f2 : Bf (F := F) c arg2) (f3 : Bf (F := F) c arg3)
    (f6 : Bf (F := F) c arg6) (f7 : Bf (F := F) c arg7) (f8 : Bf (F := F) c arg8) (f9 : Bf (F := F) c arg9) :
    (midRun c i h1 h2 h3 arg2 harg2 arg3 harg3 arg4 harg4 arg5 harg5 arg6 harg6 arg7 harg7 arg8 harg8 arg9 harg9 f2 f3 f6 f7 f8 f9).1
      = (arg6.view.writes (Elt F) arg6.view.junk (midRun.sl.H6_1 c arg2 arg3 arg6 f2 f3 f6),
         arg7.view.writes (Elt F) arg7.view.junk (midRun.sl.H7_1 c i arg2 arg3 arg7 f2 f3 f7),
         arg8.view.writes (Elt F) arg8.view.junk (midRun.sl.H8_1 c i arg2 arg3 arg7 arg8 f2 f3 f7 f8),
         arg9.view.writes (Elt F) f9 (midRun.sl.H9_16 c i h2 arg2 arg3 f2 f3)) := by
  delta midRun
  rfl

include h1 h2 h3 in
/-- A middle point's step. -/
theorem midSteps (X2 : Vec F S8x32768 .f32) (X3 : Vec F S8x1 .f32) (X4 : Vec F S8x100000 .f32) (X5 : Vec F S8x1 .i32)
    (X6 X7 : Vec F S8x2048 .f32) (X8 : Vec F S8x2048 .i32) (X9 : Vec F S49x8x2048 .f32) :
    Steps c i arg2 harg2 arg3 harg3 arg4 harg4 arg5 harg5 arg6 harg6 arg7 harg7 arg8 harg8 arg9 harg9
      X2 X3 X4 X4 X5 X5 X6 (fullSum X3 (chunkX X2) X6) X7 (fullBest i X3 (chunkX X2) X7) X8 (fullArg i X3 (chunkX X2) X7 X8)
      X9 (esFill (16 * (i 1).val) 16 (fun n => expV X3 (chunkX X2 n)) X9) := by
  have e3 : tempsOf c arg3 (arg3.view.rep X3) = X3 := (tempsOf_eq c arg3 _).trans (View.read_rep _ _)
  have e2 : chunkOf c arg2 (arg2.view.rep X2) = chunkX X2 := congrArg chunkX (View.read_rep _ _)
  refine Runs.steps c i arg2 harg2 arg3 harg3 arg4 harg4 arg5 harg5 arg6 harg6 arg7 harg7 arg8 harg8 arg9 harg9
    (fun E Q => (midRun c i h1 h2 h3 arg2 harg2 arg3 harg3 arg4 harg4 arg5 harg5 arg6 harg6 arg7 harg7 arg8 harg8 arg9 harg9 (arg2.view.rep X2) (arg3.view.rep X3) (arg6.view.rep X6) (arg7.view.rep X7) (arg8.view.rep X8) (arg9.view.rep X9)).2 _ _ E Q)
    (View.read_rep _ _) (View.read_rep _ _) ?_ ?_ ?_ ?_
  · rw [midLeft]
    delta midRun.sl.H6_1
    dsimp only
    rw [View.read_writes_full, midSum, shapeCast_self, e2, e3, View.readAt_full, View.read_rep]
  · rw [midLeft]
    delta midRun.sl.H7_1 k0_pay7
    dsimp only
    rw [View.read_writes_full, shapeCast_self, midBest, midBetter, readFull_eq, View.readAt_full, View.read_rep, e2, e3, fullBest]
  · rw [midLeft]
    delta midRun.sl.H8_1 k0_pay6
    dsimp only
    rw [View.read_writes_full, shapeCast_self, midArg, readFull_eq, readFull_eq, View.read_rep, View.read_rep, e2, e3]
  · rw [midLeft]
    dsimp only
    rw [midFill, View.read_rep, e2, e3]

end Steps

end Cert.Proof

end
-- ==== Proof.BodyFirst.lean ====
/-
  The kernel body at the first point of a row block: it runs, sets the running values to their first ones, and adds its
  sixteen chunks to them as a middle point does.
-/
module

public import proofs.«01_k».proof.Proof.BodyMid
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- What a first point leaves in the scratch buffers, and that it does. -/
noncomputable def firstRun (c : Dev nD) (i : grid0.Coords)
    (h1 : Scalar.cmpi .ne (Scalar.extui (Scalar.cmpi .eq (BitVec.ofNat 32 (i 1).val) 0#32) : BitVec 32) 0#32 = 1#1)
    (h2 : k0_cond2 i = 1#1) (h3 : ¬ k0_cond3 i = 1#1)
    (arg2 : Memref sig .tc .vmem S8x32768 .f32) (harg2 : arg2.IsWhole) (arg3 : Memref sig .tc .vmem S8x1 .f32) (harg3 : arg3.IsWhole)
    (arg4 : Memref sig .tc .vmem S8x100000 .f32) (harg4 : arg4.IsWhole) (arg5 : Memref sig .tc .vmem S8x1 .i32) (harg5 : arg5.IsWhole)
    (arg6 : Memref sig .tc .vmem S8x2048 .f32) (harg6 : arg6.IsWhole) (arg7 : Memref sig .tc .vmem S8x2048 .f32) (harg7 : arg7.IsWhole)
    (arg8 : Memref sig .tc .vmem S8x2048 .i32) (harg8 : arg8.IsWhole) (arg9 : Memref sig .tc .vmem S49x8x2048 .f32) (harg9 : arg9.IsWhole)
    (f2 : Bf (F := F) c arg2) (f3 : Bf (F := F) c arg3)
    (f6 : Bf (F := F) c arg6) (f7 : Bf (F := F) c arg7) (f8 : Bf (F := F) c arg8) (f9 : Bf (F := F) c arg9) :
    { W : Bf (F := F) c arg6 × Bf (F := F) c arg7 × Bf (F := F) c arg8 × Bf (F := F) c arg9 //
      ∀ (f4 : Bf (F := F) c arg4) (f5 : Bf (F := F) c arg5) (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5
                ∗ pt c arg6 W.1 ∗ pt c arg7 W.2.1 ∗ pt c arg8 W.2.2.1 ∗ pt c arg9 W.2.2.2) -∗ Q ⟨⟩))
        ⊢ wp frame (wpE (defs₀ (F := F)) Variants.none c none) E
            (cc0__sampler_kernel i arg2 harg2 arg3 harg3 arg4 harg4 arg5 harg5 arg6 harg6 arg7 harg7 arg8 harg8 arg9 harg9) Q } := by
  refine ⟨⟨?_, ?_, ?_, ?_⟩, fun f4 f5 E Q => ?run⟩
  case run =>
    iintro ⟨H2, H3, H4, H5, H6, H7, H8, H9, Hk⟩
    sl_exec_parts! (disch := first | sl_exact h1 | sl_exact h2 | sl_exact h3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

section Steps

variable (c : Dev nD) (i : grid0.Coords)
    (h1 : Scalar.cmpi .ne (Scalar.extui (Scalar.cmpi .eq (BitVec.ofNat 32 (i 1).val) 0#32) : BitVec 32) 0#32 = 1#1)
    (h2 : k0_cond2 i = 1#1) (h3 : ¬ k0_cond3 i = 1#1)
    (arg2 : Memref sig .tc .vmem S8x32768 .f32) (harg2 : arg2.IsWhole) (arg3 : Memref sig .tc .vmem S8x1 .f32) (harg3 : arg3.IsWhole)
    (arg4 : Memref sig .tc .vmem S8x100000 .f32) (harg4 : arg4.IsWhole) (arg5 : Memref sig .tc .vmem S8x1 .i32) (harg5 : arg5.IsWhole)
    (arg6 : Memref sig .tc .vmem S8x2048 .f32) (harg6 : arg6.IsWhole) (arg7 : Memref sig .tc .vmem S8x2048 .f32) (harg7 : arg7.IsWhole)
    (arg8 : Memref sig .tc .vmem S8x2048 .i32) (harg8 : arg8.IsWhole) (arg9 : Memref sig .tc .vmem S49x8x2048 .f32) (harg9 : arg9.IsWhole)

/-- The stored sums: the running sums, from 0. -/
theorem firstSum (f2 : Bf (F := F) c arg2) (f3 : Bf (F := F) c arg3) (s : FVec F S8x2048 .f32) :
    k0_pay792 (firstRun.sl.r_41 c arg2 arg3 f2 f3) (firstRun.sl.r_47 c arg2 arg3 f2 f3) (firstRun.sl.r_53 c arg2 arg3 f2 f3) (firstRun.sl.r_59 c arg2 arg3 f2 f3) (firstRun.sl.r_65 c arg2 arg3 f2 f3) (firstRun.sl.r_71 c arg2 arg3 f2 f3) (firstRun.sl.r_77 c arg2 arg3 f2 f3) (firstRun.sl.r_83 c arg2 arg3 f2 f3) (firstRun.sl.r_89 c arg2 arg3 f2 f3) (firstRun.sl.r_95 c arg2 arg3 f2 f3) (firstRun.sl.r_96 c arg2 arg3 f2 f3) s
      = shapeCast S8x2048 (fullSum (tempsOf c arg3 f3) (chunkOf c arg2 f2) s) shapeCasts_S8x2048_S8x2048 :=
  midSum c arg2 arg3 f2 f3 s

/-- The chunks' greatest ranks. -/
theorem firstBest (f2 : Bf (F := F) c arg2) (f3 : Bf (F := F) c arg3) : firstRun.sl.r_99 c i arg2 arg3 f2 f3 = bestOf (valAt i (tempsOf c arg3 f3) (chunkOf c arg2 f2)) 15 :=
  midBest c i arg2 arg3 f2 f3

/-- Where the chunks beat −∞. -/
theorem firstBetter (f2 : Bf (F := F) c arg2) (f3 : Bf (F := F) c arg3) : firstRun.sl.r_100 c i arg2 arg3 arg7 f2 f3
      = cmpf .ogt (bestOf (valAt i (tempsOf c arg3 f3) (chunkOf c arg2 f2)) 15)
          (readFull c arg7 (arg7.view.writes (Elt F) arg7.view.junk firstRun.sl.H7_1)) :=
  midBetter c i arg2 arg3 f2 f3 arg7 _

/-- The stored columns: the running columns, from 0. -/
theorem firstArg (f2 : Bf (F := F) c arg2) (f3 : Bf (F := F) c arg3) : firstRun.sl.r_101 c i arg2 arg3 arg7 arg8 f2 f3
      = fullArg i (tempsOf c arg3 f3) (chunkOf c arg2 f2) (readFull c arg7 (arg7.view.writes (Elt F) arg7.view.junk firstRun.sl.H7_1))
          (readFull c arg8 (arg8.view.writes (Elt F) arg8.view.junk firstRun.sl.H8_1)) :=
  midArg c i arg2 arg3 f2 f3 arg7 _ arg8 _

/-- The stores of a first point's sixteen chunks of exponentials. -/
theorem firstFill (f2 : Bf (F := F) c arg2) (f3 : Bf (F := F) c arg3) (f9 : Bf (F := F) c arg9) :
    arg9.view.read (Elt F) (arg9.view.writes (Elt F) f9 (firstRun.sl.H9_16 c i h2 arg2 arg3 f2 f3))
      = esFill (16 * (i 1).val) 16 (fun n => expV (tempsOf c arg3 f3) (chunkOf c arg2 f2 n)) (arg9.view.read (Elt F) f9) :=
  midFill c i h2 arg2 arg3 arg9 f2 f3 f9

/-- What the run leaves, named. -/
theorem firstLeft (f2 : Bf (F := F) c arg2) (f3 : Bf (F := F) c arg3)
    (f6 : Bf (F := F) c arg6) (f7 : Bf (F := F) c arg7) (f8 : Bf (F := F) c arg8) (f9 : Bf (F := F) c arg9) :
    (firstRun c i h1 h2 h3 arg2 harg2 arg3 harg3 arg4 harg4 arg5 harg5 arg6 harg6 arg7 harg7 arg8 harg8 arg9 harg9 f2 f3 f6 f7 f8 f9).1
      = (arg6.view.writes (Elt F) arg6.view.junk (firstRun.sl.H6_2 c arg2 arg3 arg6 f2 f3),
         arg7.view.writes (Elt F) arg7.view.junk (firstRun.sl.H7_2 c i arg2 arg3 arg7 f2 f3),
         arg8.view.writes (Elt F) arg8.view.junk (firstRun.sl.H8_2 c i arg2 arg3 arg7 arg8 f2 f3),
         arg9.view.writes (Elt F) f9 (firstRun.sl.H9_16 c i h2 arg2 arg3 f2 f3)) := by
  delta firstRun
  rfl

include h1 h2 h3 in
/-- A first point's step. -/
theorem firstSteps (X2 : Vec F S8x32768 .f32) (X3 : Vec F S8x1 .f32) (X4 : Vec F S8x100000 .f32) (X5 : Vec F S8x1 .i32)
    (X6 X7 : Vec F S8x2048 .f32) (X8 : Vec F S8x2048 .i32) (X9 : Vec F S49x8x2048 .f32) :
    Steps c i arg2 harg2 arg3 harg3 arg4 harg4 arg5 harg5 arg6 harg6 arg7 harg7 arg8 harg8 arg9 harg9
      X2 X3 X4 X4 X5 X5 X6 (fullSum X3 (chunkX X2) initSum) X7 (fullBest i X3 (chunkX X2) initBest) X8 (fullArg i X3 (chunkX X2) initBest initArg)
      X9 (esFill (16 * (i 1).val) 16 (fun n => expV X3 (chunkX X2 n)) X9) := by
  have e3 : tempsOf c arg3 (arg3.view.rep X3) = X3 := (tempsOf_eq c arg3 _).trans (View.read_rep _ _)
  have e2 : chunkOf c arg2 (arg2.view.rep X2) = chunkX X2 := congrArg chunkX (View.read_rep _ _)
  have p2 : (k0_pay2 : FVec F S8x2048 .f32) = initSum := shapeCast_self _ _
  have p3 : (k0_pay3 : FVec F S8x2048 .f32) = initBest := shapeCast_self _ _
  have p4 : k0_pay4 = initArg := shapeCast_self _ _
  refine Runs.steps c i arg2 harg2 arg3 harg3 arg4 harg4 arg5 harg5 arg6 harg6 arg7 harg7 arg8 harg8 arg9 harg9
    (fun E Q => (firstRun c i h1 h2 h3 arg2 harg2 arg3 harg3 arg4 harg4 arg5 harg5 arg6 harg6 arg7 harg7 arg8 harg8 arg9 harg9 (arg2.view.rep X2) (arg3.view.rep X3) (arg6.view.rep X6) (arg7.view.rep X7) (arg8.view.rep X8) (arg9.view.rep X9)).2 _ _ E Q)
    (View.read_rep _ _) (View.read_rep _ _) ?_ ?_ ?_ ?_
  · rw [firstLeft]
    delta firstRun.sl.H6_2 firstRun.sl.v3390 firstRun.sl.H6_1
    dsimp only
    rw [View.read_writes_full, firstSum, shapeCast_self, e2, e3, View.readCov_full, p2]
  · rw [firstLeft]
    delta firstRun.sl.H7_2 firstRun.sl.v3395 k0_pay7
    dsimp only
    rw [View.read_writes_full, shapeCast_self, firstBest, firstBetter, readFull_eq, e2, e3]
    delta firstRun.sl.H7_1
    rw [View.read_writes_full, View.readCov_full, p3, fullBest]
  · rw [firstLeft]
    delta firstRun.sl.H8_2 k0_pay6
    dsimp only
    rw [View.read_writes_full, shapeCast_self, firstArg, readFull_eq, readFull_eq, e2, e3]
    delta firstRun.sl.H7_1 firstRun.sl.H8_1
    rw [View.read_writes_full, View.read_writes_full, p3, p4]
  · rw [firstLeft]
    dsimp only
    rw [firstFill, View.read_rep, e2, e3]

end Steps

end Cert.Proof

end
-- ==== Proof.BodyLast.lean ====
/-
  The kernel body at the last point of a row block: it runs, adds its one masked chunk to the running values, and
  stores the row block's probabilities and tokens.
-/
module

public import proofs.«01_k».proof.Proof.Step
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- What a last point leaves in the results' blocks and the scratch buffers, and that it does. -/
noncomputable def lastRun (c : Dev nD) (i : grid0.Coords)
    (h1 : ¬ Scalar.cmpi .ne (Scalar.extui (Scalar.cmpi .eq (BitVec.ofNat 32 (i 1).val) 0#32) : BitVec 32) 0#32 = 1#1)
    (h2 : ¬ k0_cond2 i = 1#1) (h3 : k0_cond3 i = 1#1)
    (arg2 : Memref sig .tc .vmem S8x32768 .f32) (harg2 : arg2.IsWhole) (arg3 : Memref sig .tc .vmem S8x1 .f32) (harg3 : arg3.IsWhole)
    (arg4 : Memref sig .tc .vmem S8x100000 .f32) (harg4 : arg4.IsWhole) (arg5 : Memref sig .tc .vmem S8x1 .i32) (harg5 : arg5.IsWhole)
    (arg6 : Memref sig .tc .vmem S8x2048 .f32) (harg6 : arg6.IsWhole) (arg7 : Memref sig .tc .vmem S8x2048 .f32) (harg7 : arg7.IsWhole)
    (arg8 : Memref sig .tc .vmem S8x2048 .i32) (harg8 : arg8.IsWhole) (arg9 : Memref sig .tc .vmem S49x8x2048 .f32) (harg9 : arg9.IsWhole)
    (f2 : Bf (F := F) c arg2) (f3 : Bf (F := F) c arg3)
    (f4 : Bf (F := F) c arg4) (f5 : Bf (F := F) c arg5) (f6 : Bf (F := F) c arg6) (f7 : Bf (F := F) c arg7) (f8 : Bf (F := F) c arg8) (f9 : Bf (F := F) c arg9) :
    { W : Bf (F := F) c arg4 × Bf (F := F) c arg5 × Bf (F := F) c arg6 × Bf (F := F) c arg7 × Bf (F := F) c arg8 × Bf (F := F) c arg9 //
      ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 W.1 ∗ pt c arg5 W.2.1
                ∗ pt c arg6 W.2.2.1 ∗ pt c arg7 W.2.2.2.1 ∗ pt c arg8 W.2.2.2.2.1 ∗ pt c arg9 W.2.2.2.2.2) -∗ Q ⟨⟩))
        ⊢ wp frame (wpE (defs₀ (F := F)) Variants.none c none) E
            (cc0__sampler_kernel i arg2 harg2 arg3 harg3 arg4 harg4 arg5 harg5 arg6 harg6 arg7 harg7 arg8 harg8 arg9 harg9) Q } := by
  refine ⟨⟨?_, ?_, ?_, ?_, ?_, ?_⟩, fun E Q => ?run⟩
  case run =>
    iintro ⟨H2, H3, H4, H5, H6, H7, H8, H9, Hk⟩
    sl_exec_parts! (disch := first | sl_exact h1 | sl_exact h2 | sl_exact h3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

section Steps

variable (c : Dev nD) (i : grid0.Coords)
    (h1 : ¬ Scalar.cmpi .ne (Scalar.extui (Scalar.cmpi .eq (BitVec.ofNat 32 (i 1).val) 0#32) : BitVec 32) 0#32 = 1#1)
    (h2 : ¬ k0_cond2 i = 1#1) (h3 : k0_cond3 i = 1#1)
    (arg2 : Memref sig .tc .vmem S8x32768 .f32) (harg2 : arg2.IsWhole) (arg3 : Memref sig .tc .vmem S8x1 .f32) (harg3 : arg3.IsWhole)
    (arg4 : Memref sig .tc .vmem S8x100000 .f32) (harg4 : arg4.IsWhole) (arg5 : Memref sig .tc .vmem S8x1 .i32) (harg5 : arg5.IsWhole)
    (arg6 : Memref sig .tc .vmem S8x2048 .f32) (harg6 : arg6.IsWhole) (arg7 : Memref sig .tc .vmem S8x2048 .f32) (harg7 : arg7.IsWhole)
    (arg8 : Memref sig .tc .vmem S8x2048 .i32) (harg8 : arg8.IsWhole) (arg9 : Memref sig .tc .vmem S49x8x2048 .f32) (harg9 : arg9.IsWhole)

/-- The ranks of the last block, as the run computes them. -/
theorem lastVal (f2 : Bf (F := F) c arg2) (f3 : Bf (F := F) c arg3) : lastRun.sl.r_4 c i arg2 arg3 f2 f3 = tailVal i (tempsOf c arg3 f3) (chunkOf c arg2 f2 0) := by
  delta tailVal valV gumbelV bitsV hashV injV quadA quadB rndV
  dsimp only
  rfl

/-- The stored sums: the running sums. -/
theorem lastSum (f2 : Bf (F := F) c arg2) (f3 : Bf (F := F) c arg3) (s : FVec F S8x2048 .f32) : k0_pay847 (lastRun.sl.r c arg2 arg3 f2 f3) (lastRun.sl.r_1 i) s
    = shapeCast S8x2048 (tailSum i (tempsOf c arg3 f3) (chunkOf c arg2 f2 0) s) shapeCasts_S8x2048_S8x2048 := rfl

/-- The store of the last block's exponentials. -/
theorem lastFill (f2 : Bf (F := F) c arg2) (f3 : Bf (F := F) c arg3) (f9 : Bf (F := F) c arg9) :
    arg9.view.read (Elt F) (arg9.view.writes (Elt F) f9 (lastRun.sl.H9_1 c i h3 arg2 arg3 f2 f3))
      = esFill (16 * (i 1).val) 1 (fun _ => tailExp i (tempsOf c arg3 f3) (chunkOf c arg2 f2 0)) (arg9.view.read (Elt F) f9) :=
  esFill_step arg9 f9 _ 0 _ _ _ _ _ (k0_off2_eq i) rfl (esFill_zero _ _ _).symm

/-- The stores of the row block's probabilities. -/
theorem lastProbs (f2 : Bf (F := F) c arg2) (f3 : Bf (F := F) c arg3) (f4 : Bf (F := F) c arg4) (f6 : Bf (F := F) c arg6) (f9 : Bf (F := F) c arg9) (p : Vec F S49x8x2048 .f32)
    (hp : arg9.view.read (Elt F) (arg9.view.writes (Elt F) f9 (lastRun.sl.H9_1 c i h3 arg2 arg3 f2 f3)) = p) :
    arg4.view.read (Elt F) (arg4.view.writes (Elt F) f4 (lastRun.sl.H4_49 c i h3 arg2 arg3 arg6 arg9 f2 f3 f6 f9))
      = probV p (lastRun.sl.r_5 c i arg2 arg3 arg6 f2 f3 f6) :=
  probFill_last arg4 f4 arg9 _ p hp _ _ _ rfl _ _ _ _ rfl <|
    probFill_step arg4 f4 arg9 _ p hp _ _ 47 _ _ _ _ rfl <|
    probFill_step arg4 f4 arg9 _ p hp _ _ 46 _ _ _ _ rfl <|
    probFill_step arg4 f4 arg9 _ p hp _ _ 45 _ _ _ _ rfl <|
    probFill_step arg4 f4 arg9 _ p hp _ _ 44 _ _ _ _ rfl <|
    probFill_step arg4 f4 arg9 _ p hp _ _ 43 _ _ _ _ rfl <|
    probFill_step arg4 f4 arg9 _ p hp _ _ 42 _ _ _ _ rfl <|
    probFill_step arg4 f4 arg9 _ p hp _ _ 41 _ _ _ _ rfl <|
    probFill_step arg4 f4 arg9 _ p hp _ _ 40 _ _ _ _ rfl <|
    probFill_step arg4 f4 arg9 _ p hp _ _ 39 _ _ _ _ rfl <|
    probFill_step arg4 f4 arg9 _ p hp _ _ 38 _ _ _ _ rfl <|
    probFill_step arg4 f4 arg9 _ p hp _ _ 37 _ _ _ _ rfl <|
    probFill_step arg4 f4 arg9 _ p hp _ _ 36 _ _ _ _ rfl <|
    probFill_step arg4 f4 arg9 _ p hp _ _ 35 _ _ _ _ rfl <|
    probFill_step arg4 f4 arg9 _ p hp _ _ 34 _ _ _ _ rfl <|
    probFill_step arg4 f4 arg9 _ p hp _ _ 33 _ _ _ _ rfl <|
    probFill_step arg4 f4 arg9 _ p hp _ _ 32 _ _ _ _ rfl <|
    probFill_step arg4 f4 arg9 _ p hp _ _ 31 _ _ _ _ rfl <|
    probFill_step arg4 f4 arg9 _ p hp _ _ 30 _ _ _ _ rfl <|
    probFill_step arg4 f4 arg9 _ p hp _ _ 29 _ _ _ _ rfl <|
    probFill_step arg4 f4 arg9 _ p hp _ _ 28 _ _ _ _ rfl <|
    probFill_step arg4 f4 arg9 _ p hp _ _ 27 _ _ _ _ rfl <|
    probFill_step arg4 f4 arg9 _ p hp _ _ 26 _ _ _ _ rfl <|
    probFill_step arg4 f4 arg9 _ p hp _ _ 25 _ _ _ _ rfl <|
    probFill_step arg4 f4 arg9 _ p hp _ _ 24 _ _ _ _ rfl <|
    probFill_step arg4 f4 arg9 _ p hp _ _ 23 _ _ _ _ rfl <|
    probFill_step arg4 f4 arg9 _ p hp _ _ 22 _ _ _ _ rfl <|
    probFill_step arg4 f4 arg9 _ p hp _ _ 21 _ _ _ _ rfl <|
    probFill_step arg4 f4 arg9 _ p hp _ _ 20 _ _ _ _ rfl <|
    probFill_step arg4 f4 arg9 _ p hp _ _ 19 _ _ _ _ rfl <|
    probFill_step arg4 f4 arg9 _ p hp _ _ 18 _ _ _ _ rfl <|
    probFill_step arg4 f4 arg9 _ p hp _ _ 17 _ _ _ _ rfl <|
    probFill_step arg4 f4 arg9 _ p hp _ _ 16 _ _ _ _ rfl <|
    probFill_step arg4 f4 arg9 _ p hp _ _ 15 _ _ _ _ rfl <|
    probFill_step arg4 f4 arg9 _ p hp _ _ 14 _ _ _ _ rfl <|
    probFill_step arg4 f4 arg9 _ p hp _ _ 13 _ _ _ _ rfl <|
    probFill_step arg4 f4 arg9 _ p hp _ _ 12 _ _ _ _ rfl <|
    probFill_step arg4 f4 arg9 _ p hp _ _ 11 _ _ _ _ rfl <|
    probFill_step arg4 f4 arg9 _ p hp _ _ 10 _ _ _ _ rfl <|
    probFill_step arg4 f4 arg9 _ p hp _ _ 9 _ _ _ _ rfl <|
    probFill_step arg4 f4 arg9 _ p hp _ _ 8 _ _ _ _ rfl <|
    probFill_step arg4 f4 arg9 _ p hp _ _ 7 _ _ _ _ rfl <|
    probFill_step arg4 f4 arg9 _ p hp _ _ 6 _ _ _ _ rfl <|
    probFill_step arg4 f4 arg9 _ p hp _ _ 5 _ _ _ _ rfl <|
    probFill_step arg4 f4 arg9 _ p hp _ _ 4 _ _ _ _ rfl <|
    probFill_step arg4 f4 arg9 _ p hp _ _ 3 _ _ _ _ rfl <|
    probFill_step arg4 f4 arg9 _ p hp _ _ 2 _ _ _ _ rfl <|
    probFill_step arg4 f4 arg9 _ p hp _ _ 1 _ _ _ _ rfl <|
    probFill_step arg4 f4 arg9 _ p hp _ _ 0 _ _ _ _ rfl <|
    (probFill_zero _ _ _).symm

/-- What the run leaves, named. -/
theorem lastLeft (f2 : Bf (F := F) c arg2) (f3 : Bf (F := F) c arg3)
    (f4 : Bf (F := F) c arg4) (f5 : Bf (F := F) c arg5) (f6 : Bf (F := F) c arg6) (f7 : Bf (F := F) c arg7) (f8 : Bf (F := F) c arg8) (f9 : Bf (F := F) c arg9) :
    (lastRun c i h1 h2 h3 arg2 harg2 arg3 harg3 arg4 harg4 arg5 harg5 arg6 harg6 arg7 harg7 arg8 harg8 arg9 harg9 f2 f3 f4 f5 f6 f7 f8 f9).1
      = (arg4.view.writes (Elt F) arg4.view.junk (lastRun.sl.H4_49 c i h3 arg2 arg3 arg6 arg9 f2 f3 f6 f9),
         arg5.view.writes (Elt F) arg5.view.junk (lastRun.sl.H5_1 c i arg2 arg3 arg7 arg8 f2 f3 f7 f8),
         arg6.view.writes (Elt F) arg6.view.junk (lastRun.sl.H6_1 c i arg2 arg3 arg6 f2 f3 f6),
         arg7.view.writes (Elt F) arg7.view.junk (lastRun.sl.H7_1 c i arg2 arg3 arg7 f2 f3 f7),
         arg8.view.writes (Elt F) arg8.view.junk (lastRun.sl.H8_1 c i arg2 arg3 arg7 arg8 f2 f3 f7 f8),
         arg9.view.writes (Elt F) f9 (lastRun.sl.H9_1 c i h3 arg2 arg3 f2 f3)) := by
  delta lastRun
  rfl

include h1 h2 h3 in
/-- A last point's step. -/
theorem lastSteps (X2 : Vec F S8x32768 .f32) (X3 : Vec F S8x1 .f32) (X4 : Vec F S8x100000 .f32) (X5 : Vec F S8x1 .i32)
    (X6 X7 : Vec F S8x2048 .f32) (X8 : Vec F S8x2048 .i32) (X9 : Vec F S49x8x2048 .f32) :
    Steps c i arg2 harg2 arg3 harg3 arg4 harg4 arg5 harg5 arg6 harg6 arg7 harg7 arg8 harg8 arg9 harg9
      X2 X3
      X4 (probV (esFill (16 * (i 1).val) 1 (fun _ => tailExp i X3 (chunkX X2 0)) X9) (invSum (tailSum i X3 (chunkX X2 0) X6)))
      X5 (tokV (tailBest i X3 (chunkX X2 0) X7) (tailArg i X3 (chunkX X2 0) X7 X8))
      X6 (tailSum i X3 (chunkX X2 0) X6) X7 (tailBest i X3 (chunkX X2 0) X7) X8 (tailArg i X3 (chunkX X2 0) X7 X8)
      X9 (esFill (16 * (i 1).val) 1 (fun _ => tailExp i X3 (chunkX X2 0)) X9) := by
  have e3 : tempsOf c arg3 (arg3.view.rep X3) = X3 := (tempsOf_eq c arg3 _).trans (View.read_rep _ _)
  have e2 : chunkOf c arg2 (arg2.view.rep X2) = chunkX X2 := congrArg chunkX (View.read_rep _ _)
  refine Runs.steps c i arg2 harg2 arg3 harg3 arg4 harg4 arg5 harg5 arg6 harg6 arg7 harg7 arg8 harg8 arg9 harg9
    (fun E Q => (lastRun c i h1 h2 h3 arg2 harg2 arg3 harg3 arg4 harg4 arg5 harg5 arg6 harg6 arg7 harg7 arg8 harg8 arg9 harg9 (arg2.view.rep X2) (arg3.view.rep X3) (arg4.view.rep X4) (arg5.view.rep X5) (arg6.view.rep X6) (arg7.view.rep X7) (arg8.view.rep X8) (arg9.view.rep X9)).2 E Q)
    ?_ ?_ ?_ ?_ ?_ ?_
  · rw [lastLeft]
    dsimp only
    rw [lastProbs c i h3 arg2 arg3 arg4 arg6 arg9 _ _ _ _ _ _ (lastFill c i h3 arg2 arg3 arg9 _ _ _)]
    delta lastRun.sl.r_5 lastRun.sl.v248 lastRun.sl.H6_1
    dsimp only
    rw [View.readCov_full, lastSum, shapeCast_self, View.readAt_full, View.read_rep, View.read_rep, e2, e3]
    rfl
  · rw [lastLeft]
    delta lastRun.sl.H5_1 lastRun.sl.v253 lastRun.sl.v258 lastRun.sl.H7_1 lastRun.sl.H8_1 k0_pay849 k0_pay850 k0_pay848
    dsimp only
    rw [View.read_writes_full, View.readCov_full, View.readCov_full, shapeCast_self, shapeCast_self, lastVal, View.readAt_full,
      View.readAt_full, View.read_rep, View.read_rep, e2, e3]
    rfl
  · rw [lastLeft]
    delta lastRun.sl.H6_1
    dsimp only
    rw [View.read_writes_full, lastSum, shapeCast_self, e2, e3, View.readAt_full, View.read_rep]
  · rw [lastLeft]
    delta lastRun.sl.H7_1 k0_pay850 k0_pay848
    dsimp only
    rw [View.read_writes_full, shapeCast_self, lastVal, View.readAt_full, View.read_rep, e2, e3, tailBest]
  · rw [lastLeft]
    delta lastRun.sl.H8_1 k0_pay849 k0_pay848
    dsimp only
    rw [View.read_writes_full, shapeCast_self, lastVal, View.readAt_full, View.readAt_full, View.read_rep, View.read_rep, e2, e3]
    rfl
  · rw [lastLeft]
    dsimp only
    rw [lastFill, View.read_rep, e2, e3]

end Steps

end Cert.Proof

end
-- ==== Proof.State.lean ====
/-
  What the pipeline's points hold: the blocks each point reads, the accumulators' values before each point, and the
  fact that the part of the last logits block past the array's end decides nothing.
-/
module

public import proofs.«01_k».proof.Proof.BodyMid
public import proofs.«01_k».proof.Proof.BodyFirst
public import proofs.«01_k».proof.Proof.BodyLast
public import proofs.«01_k».proof.Proof.Gen.KernelIdeal.Frame

@[expose] public section

noncomputable section

namespace Cert.Proof

open Cert.KernelIdeal Cert.KernelIdeal.Gen
open Idealize.ShloMosaic
open Idealize.ShloMosaic.TcCoe Idealize.ShloMosaic.ValueIdx

variable {F : FTy → Type} [FloatOps F]

/-- The accumulators: sums, greatest ranks, their columns, and the exponentials kept for the end. -/
structure St (F : FTy → Type) where
  s : FVec F S8x2048 .f32
  b : FVec F S8x2048 .f32
  g : IVec S8x2048 32
  e : Vec F S49x8x2048 .f32

/-- The accumulators as a row block's first point sets them. -/
def stInit : St F := ⟨initSum, initBest, initArg, fun _ => Scalar.ofBits .f32 0x00000000#32⟩

/-- The accumulators after a full block's point. -/
def stMid (i : grid0.Coords) (T : FVec F S8x1 .f32) (x : Nat → Vec F S8x2048 .f32) (st : St F) : St F :=
  ⟨fullSum T x st.s, fullBest i T x st.b, fullArg i T x st.b st.g, esFill (16 * (i 1).val) 16 (fun n => expV T (x n)) st.e⟩

/-- The accumulators after the last block's point. -/
def stLast (i : grid0.Coords) (T : FVec F S8x1 .f32) (x : Vec F S8x2048 .f32) (st : St F) : St F :=
  ⟨tailSum i T x st.s, tailBest i T x st.b, tailArg i T x st.b st.g, esFill (16 * (i 1).val) 1 (fun _ => tailExp i T x) st.e⟩

section Blocks

variable (m : (ℓ : Loc nD τ sig) → Buf (Elt F) ℓ) (c : Dev nD)

/-- The logits block of point `t`, anything (here 0) past the array's end. -/
def inX (t : Fin cfg0.N) : Vec F S8x32768 .f32 :=
  win0_0.fill (grid0.coords t) (fun _ => Scalar.ofBits .f32 0x00000000#32) (iblk m c 0 t)

/-- The temperatures block of point `t`. -/
def inT (t : Fin cfg0.N) : Vec F S8x1 .f32 := iblk m c 1 t

/-- The accumulators before point `n` (past a row block's first point). -/
def stAt : Nat → St F
  | 0 => stInit
  | n + 1 =>
    if h : n < cfg0.N then
      if n % 4 = 3 then stLast (grid0.coords ⟨n, h⟩) (inT m c ⟨n, h⟩) (chunkX (inX m c ⟨n, h⟩) 0) (stAt n)
      else stMid (grid0.coords ⟨n, h⟩) (inT m c ⟨n, h⟩) (chunkX (inX m c ⟨n, h⟩)) (if n % 4 = 0 then stInit else stAt n)
    else stInit

/-- The scratch after the last point of a row block. -/
theorem stAt_last (t : Fin cfg0.N) (h : t.val % 4 = 3) :
    stAt m c (t.val + 1) = stLast (grid0.coords t) (inT m c t) (chunkX (inX m c t) 0) (stAt m c t.val) := by
  rw [stAt, dif_pos t.isLt, if_pos h]

/-- The scratch after a point in the middle of a row block. -/
theorem stAt_mid (t : Fin cfg0.N) (h : t.val % 4 ≠ 3) (h0 : t.val % 4 ≠ 0) :
    stAt m c (t.val + 1) = stMid (grid0.coords t) (inT m c t) (chunkX (inX m c t)) (stAt m c t.val) := by
  rw [stAt, dif_pos t.isLt, if_neg h, if_neg h0]

/-- The scratch after the first point of a row block. -/
theorem stAt_first (t : Fin cfg0.N) (h : t.val % 4 = 0) :
    stAt m c (t.val + 1) = stMid (grid0.coords t) (inT m c t) (chunkX (inX m c t)) stInit := by
  rw [stAt, dif_pos t.isLt, if_neg (by omega), if_pos h]

end Blocks

/-! ## The grid -/

/-- A point's row block. -/
theorem crd0 : ∀ t : Fin cfg0.N, (grid0.coords t 0).val = t.val / 4 := by decide +kernel
/-- A point's column block. -/
theorem crd1 : ∀ t : Fin cfg0.N, (grid0.coords t 1).val = t.val % 4 := by decide +kernel
/-- The first condition holds at the first column block. -/
theorem cond1_iff : ∀ t : Fin cfg0.N,
    (Scalar.cmpi .ne (Scalar.extui (Scalar.cmpi .eq (BitVec.ofNat 32 (grid0.coords t 1).val) 0#32) : BitVec 32) 0#32 = 1#1)
      ↔ t.val % 4 = 0 := by decide +kernel
/-- The second condition holds at every column block but the last. -/
theorem cond2_iff : ∀ t : Fin cfg0.N, k0_cond2 (grid0.coords t) = 1#1 ↔ t.val % 4 ≠ 3 := by decide +kernel
/-- The third condition holds at the last column block. -/
theorem cond3_iff : ∀ t : Fin cfg0.N, k0_cond3 (grid0.coords t) = 1#1 ↔ t.val % 4 = 3 := by decide +kernel

/-! ## Past the array's end -/

/-- The part of a block's coordinate `k` below the array's end is moved. -/
theorem clip_lt (ix k d j : Nat) (hj : j < k) (h : ix * k + j < d) : j < (Pipeline.Clip.of ix k d).extent k := by
  unfold Pipeline.Clip.of
  split
  · exact hj
  · show j < d - ix * k
    omega

/-- The block's index map, as numbers. -/
theorem ix0 : ∀ t : Fin cfg0.N, cc0_transform_0 (grid0.coords t) 0 = t.val / 4 ∧ cc0_transform_0 (grid0.coords t) 1 = t.val % 4 := by
  decide +kernel

/-- Every place of the logits block that is a column of the array is fetched. -/
theorem moved0 (t : Fin cfg0.N) (y : S8x32768.Idx) (h : 32768 * (t.val % 4) + (y 1).val < 100000) :
    win0_0.moved (grid0.coords t) y = true := by
  rw [Pipeline.Window.moved_iff]
  have ht : t.val < 64 := N_0 ▸ t.isLt
  have y0 : (y 0).val < 8 := (y 0).isLt
  refine Fin.forall_fin_two.2 ⟨?_, ?_⟩
  · exact clip_lt _ 8 128 _ (y 0).isLt (by rw [(ix0 t).1]; omega)
  · exact clip_lt _ 32768 100000 _ (y 1).isLt (by rw [(ix0 t).2]; omega)

variable (m : (ℓ : Loc nD τ sig) → Buf (Elt F) ℓ) (c : Dev nD)

/-- There the filler does not matter. -/
theorem fill_inX (t : Fin cfg0.N) (d : Vec F S8x32768 .f32) (y : S8x32768.Idx) (h : 32768 * (t.val % 4) + (y 1).val < 100000) :
    (win0_0.fill (grid0.coords t) d (iblk m c 0 t) : Vec F S8x32768 .f32) y = inX m c t y := by
  unfold inX Pipeline.Window.fill
  rw [dif_pos (moved0 t y h), dif_pos (moved0 t y h)]

/-- A full block is fetched whole. -/
theorem fill_full (t : Fin cfg0.N) (d : Vec F S8x32768 .f32) (h : t.val % 4 ≠ 3) :
    (win0_0.fill (grid0.coords t) d (iblk m c 0 t) : Vec F S8x32768 .f32) = inX m c t := by
  funext y
  have := (y 1).isLt
  refine fill_inX m c t d y ?_
  change (y 1).val < 32768 at this
  omega

/-- A lane of the last block's chunk is a column of the array, or masked. -/
theorem tailMask_iff (t : Fin cfg0.N) (h : t.val % 4 = 3) (y : S8x2048.Idx) :
    tailMask (grid0.coords t) y = 1#1 ↔ (y 1).val < 1696 := by
  have y1 : (y 1).val < 2048 := (y 1).isLt
  have e : colV (grid0.coords t) 0#32 y = BitVec.ofNat 32 (98304 + (y 1).val) := by
    unfold colV
    rw [crd1 t, h]
    show (BitVec.ofNat 32 3 * 32768#32 + 0#32) + iota .tc S8x2048 32 [1] iota_S8x2048_d1_w32 y = _
    rw [iota_single_apply]
    apply BitVec.eq_of_toNat_eq
    simp
  show BitVec.ofBool ((colV (grid0.coords t) 0#32 y).slt 100000#32) = 1#1 ↔ _
  rw [e]
  have e2 : (BitVec.ofNat 32 (98304 + (y 1).val)).toInt = 98304 + (y 1).val := by
    rw [BitVec.toInt_eq_toNat_of_lt] <;> simp <;> omega
  rw [BitVec.slt, e2, show (100000#32 : BitVec 32).toInt = 100000 from rfl]
  by_cases h' : (98304 + ((y 1).val : Int)) < 100000
  · rw [decide_eq_true h']; exact ⟨fun _ => by omega, fun _ => rfl⟩
  · rw [decide_eq_false h']; exact ⟨fun h => absurd h (by decide), fun h => absurd h (by omega)⟩

/-- Chunk 0 of the last block, on the lanes that are columns of the array. -/
theorem chunk_tail (t : Fin cfg0.N) (h : t.val % 4 = 3) (d : Vec F S8x32768 .f32) (y : S8x2048.Idx) (hy : tailMask (grid0.coords t) y = 1#1) :
    chunkX (win0_0.fill (grid0.coords t) d (iblk m c 0 t) : Vec F S8x32768 .f32) 0 y = chunkX (inX m c t) 0 y := by
  refine fill_inX m c t d _ ?_
  have := (tailMask_iff t h y).1 hy
  show 32768 * (t.val % 4) + (0 + 1 * (y 1).val) < 100000
  omega

/-- Two vectors selected under a mask agree if they do where it is set. -/
theorem select_congr {α : Type} (q : IVec S8x2048 1) (a b z : S8x2048.Idx → α) (h : ∀ y, q y = 1#1 → a y = b y) : select q a z = select q b z := by
  funext y
  show (if q y = 1#1 then a y else z y) = (if q y = 1#1 then b y else z y)
  split
  · next hy => exact h y hy
  · rfl

/-- The last block's exponentials do not depend on the filler. -/
theorem tailExp_fill (t : Fin cfg0.N) (h : t.val % 4 = 3) (d : Vec F S8x32768 .f32) (T : FVec F S8x1 .f32) :
    tailExp (grid0.coords t) T (chunkX (win0_0.fill (grid0.coords t) d (iblk m c 0 t) : Vec F S8x32768 .f32) 0)
      = tailExp (grid0.coords t) T (chunkX (inX m c t) 0) :=
  select_congr _ _ _ _ fun y hy => by
    show FloatOps.exp (FloatOps.divf (chunkX _ 0 y) _) = FloatOps.exp (FloatOps.divf (chunkX _ 0 y) _)
    rw [chunk_tail m c t h d y hy]

/-- Nor do its ranks. -/
theorem tailVal_fill (t : Fin cfg0.N) (h : t.val % 4 = 3) (d : Vec F S8x32768 .f32) (T : FVec F S8x1 .f32) :
    tailVal (grid0.coords t) T (chunkX (win0_0.fill (grid0.coords t) d (iblk m c 0 t) : Vec F S8x32768 .f32) 0)
      = tailVal (grid0.coords t) T (chunkX (inX m c t) 0) :=
  select_congr _ _ _ _ fun y hy => by
    show FloatOps.addf _ (FloatOps.divf (chunkX _ 0 y) _) = FloatOps.addf _ (FloatOps.divf (chunkX _ 0 y) _)
    rw [chunk_tail m c t h d y hy]

/-- So the last point's accumulators do not. -/
theorem stLast_fill (t : Fin cfg0.N) (h : t.val % 4 = 3) (d : Vec F S8x32768 .f32) (T : FVec F S8x1 .f32) (st : St F) :
    stLast (grid0.coords t) T (chunkX (win0_0.fill (grid0.coords t) d (iblk m c 0 t) : Vec F S8x32768 .f32) 0) st
      = stLast (grid0.coords t) T (chunkX (inX m c t) 0) st := by
  unfold stLast tailSum tailBest tailArg
  rw [tailExp_fill m c t h d T, tailVal_fill m c t h d T]

end Cert.Proof

end
-- ==== Proof.Point.lean ====
/-
  The pipeline's obligation: at every grid point the kernel body takes the invariant and the staging buffers from
  what they hold before the point to what they hold after it; and the run this gives.
-/
module

public import proofs.«01_k».proof.Proof.State
public import Idealize.ShloMosaic.Lib.Pipeline.FrameSuffix

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR nD τ) ℕ

variable (m : (ℓ : Loc nD τ sig) → Buf (Elt F) ℓ) (c : Dev nD)

/-- What the accumulators hold before point `n`: nothing is known at a row block's first point; afterwards they are
    the accumulators' values, the exponentials as far as they have been written. -/
def Inv (n : Nat) (X6 X7 : Vec F S8x2048 .f32) (X8 : Vec F S8x2048 .i32) (X9 : Vec F S49x8x2048 .f32) : Prop :=
  n % 4 ≠ 0 → X6 = (stAt m c n).s ∧ X7 = (stAt m c n).b ∧ X8 = (stAt m c n).g
    ∧ ∀ y, (y 0).val < 16 * (n % 4) → X9 y = (stAt m c n).e y

/-- The accumulators' buffers on core `c` before point `n`. -/
def Acc (n : Nat) : sProp 𝕄 :=
  iprop(∃ X6 X7 X8 X9, ⌜Inv m c n X6 X7 X8 X9⌝
    ∗ owns (c : Thread nD τ) (Memref.whole cc0_scratch0) fullShare X6 ∗ owns (c : Thread nD τ) (Memref.whole cc0_scratch1) fullShare X7
    ∗ owns (c : Thread nD τ) (Memref.whole cc0_scratch2) fullShare X8 ∗ owns (c : Thread nD τ) (Memref.whole cc0_scratch3) fullShare X9)

/-- The pipeline's proof data: the inputs' blocks, and at a row block's last point the probabilities and the tokens. -/
def dats (_ : Fin 1) (c : Dev nD) : Dat τ (Elt F) Unit ℕ (UR nD τ) ℕ cfg0 c where
  A w := V m c (Pipeline.arrRef spec0 w)
  after w t := match w with
    | ⟨0, _⟩ => inX m c t
    | ⟨1, _⟩ => inT m c t
    | ⟨2, _⟩ => probV (stAt m c (t.val + 1)).e (invSum (stAt m c (t.val + 1)).s)
    | ⟨3, _⟩ => tokV (stAt m c (t.val + 1)).b (stAt m c (t.val + 1)).g
    | ⟨_ + 4, h⟩ => absurd h (Nat.not_lt.2 (Nat.le_add_left _ _))
  Φ n := iprop(Acc m c n.val ∗ ∃ r, prngReg c r)
  q _ := fullShare
  owed _ := 0

/-- The body finds the logits' block as fetched, filled with anything past the array's end. -/
theorem before0 (t : Fin cfg0.N) (d) : (dats m 0 c).before 0 t d = win0_0.fill (grid0.coords t) d (iblk m c 0 t) := by
  unfold Dat.before
  rw [if_pos (fetch0_0 t)]
  rfl

/-- The body finds the temperatures' block. -/
theorem before1 (t : Fin cfg0.N) (d) : (dats m 0 c).before 1 t d = inT m c t :=
  before0_1_of m (dats m 0 c) rfl (fun _ => rfl) t d

/-- The logits window is left as fetched. -/
theorem leaves0 (t : Fin cfg0.N) (d : Vec F S8x32768 .f32) :
    owns (c : Thread nD τ) (st0_0 t) fullShare (win0_0.fill (grid0.coords t) d (iblk m c 0 t)) ⊢ ((dats m 0 c).leaves 0 t : sProp 𝕄) := by
  have e : win0_0.cut (grid0.coords t) (inX m c t) = iblk m c 0 t := win0_0.cut_fill _ _ _
  show _ ⊢ iprop(∃ d, owns (c : Thread nD τ) (st0_0 t) fullShare (win0_0.fill (grid0.coords t) d (win0_0.cut (grid0.coords t) (inX m c t))))
  rw [e]
  iintro H
  iexists d
  iexact H

/-- A point of the grid from what the body does there: it takes the accumulators on, leaves the inputs, and leaves the
    results' windows as they must be left. -/
theorem point_of (t : Fin cfg0.N) (Y4 : Vec F S8x100000 .f32 → Vec F S8x100000 .f32) (Y5 : Vec F S8x1 .i32 → Vec F S8x1 .i32)
    (h4 : ∀ d, owns (c : Thread nD τ) (st0_2 t) fullShare (Y4 ((dats m 0 c).before 2 t d)) ⊢ ((dats m 0 c).leaves 2 t : sProp 𝕄))
    (h5 : ∀ d, owns (c : Thread nD τ) (st0_3 t) fullShare (Y5 ((dats m 0 c).before 3 t d)) ⊢ ((dats m 0 c).leaves 3 t : sProp 𝕄))
    (hstep : ∀ (d : Vec F S8x32768 .f32) X4 X5 X6 X7 X8 X9, Inv m c t.val X6 X7 X8 X9 → ∃ Z6 Z7 Z8 Z9, Inv m c (t.val + 1) Z6 Z7 Z8 Z9 ∧
      Steps c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
        (Memref.whole cc0_scratch0) (Memref.isWhole_whole _) (Memref.whole cc0_scratch1) (Memref.isWhole_whole _) (Memref.whole cc0_scratch2) (Memref.isWhole_whole _) (Memref.whole cc0_scratch3) (Memref.isWhole_whole _)
        (win0_0.fill (grid0.coords t) d (iblk m c 0 t)) (inT m c t) X4 (Y4 X4) X5 (Y5 X5) X6 Z6 X7 Z7 X8 Z8 X9 Z9) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := F)) Variants.none c none) Set.univ (defs₀ .tc cfg0.body (cfg0.bodyArgs t (cfg0.slots t))) fun _ =>
          (iprop((dats m 0 c).Φ t.succ ∗ (dats m 0 c).owesAt () t.succ
            ∗ (dats m 0 c).leaves 0 t ∗ (dats m 0 c).leaves 1 t ∗ (dats m 0 c).leaves 2 t ∗ (dats m 0 c).leaves 3 t) : sProp 𝕄) := by
  rw [show (dats m 0 c).owesAt () t.succ = (dats m 0 c).owesAt () t.castSucc from rfl]
  rw [show (dats m 0 c).Φ t.succ = iprop(Acc m c (t.val + 1) ∗ ∃ r, prngReg c r) from rfl]
  rw [show (dats m 0 c).Φ t.castSucc = iprop(Acc m c t.val ∗ ∃ r, prngReg c r) from rfl]
  unfold Acc
  iintro ⟨⟨⟨%X6, %X7, %X8, %X9, %hI, H6, H7, H8, H9⟩, Hr⟩, Ho, ⟨%d0, H0⟩, ⟨%d1, H1⟩, ⟨%d2, H2⟩, ⟨%d3, H3⟩⟩
  rw [before0, before1]
  obtain ⟨Z6, Z7, Z8, Z9, hZ, hs⟩ := hstep d0 ((dats m 0 c).before 2 t d2) ((dats m 0 c).before 3 t d3) X6 X7 X8 X9 hI
  rw [show defs₀ (F := F) .tc cfg0.body (cfg0.bodyArgs t (cfg0.slots t)) = bodyAt0 t from by unfold defs₀; rw [Defs.onTc_tc]]
  iapply (hs Set.univ _)
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  iintro ⟨H0, H1, H2, H3, H6, H7, H8, H9⟩
  isplitl [H6 H7 H8 H9 Hr]
  · isplitr [Hr]
    · iexists Z6; iexists Z7; iexists Z8; iexists Z9
      isplitr
      · ipureintro; exact hZ
      isplitl [H6]; · iexact H6
      isplitl [H7]; · iexact H7
      isplitl [H8]; · iexact H8
      iexact H9
    · iexact Hr
  isplitl [Ho]; · iexact Ho
  isplitl [H0]; · iapply (leaves0 m c t d0); iexact H0
  isplitl [H1]; · iexact H1
  isplitl [H2]; · iapply (h4 d2); iexact H2
  iapply (h5 d3); iexact H3

/-- Writing the same chunks over two buffers that agree below them gives two that agree up to their end. -/
theorem esFill_agree (b n : Nat) (e : Nat → FVec F S8x2048 .f32) (g g' : Vec F S49x8x2048 .f32) (h : ∀ y, (y 0).val < b → g y = g' y)
    (y : S49x8x2048.Idx) (hy : (y 0).val < b + n) : esFill b n e g y = esFill b n e g' y := by
  unfold esFill
  split
  · rfl
  · exact h y (by omega)

/-- After a full block's point the accumulators are what they should be, if they were before it. -/
theorem Inv.mid (t : Fin cfg0.N) (h : t.val % 4 ≠ 3) (st : St F)
    (hst : stAt m c (t.val + 1) = stMid (grid0.coords t) (inT m c t) (chunkX (inX m c t)) st)
    (X9 : Vec F S49x8x2048 .f32) (h9 : ∀ y, (y 0).val < 16 * (t.val % 4) → X9 y = st.e y) :
    Inv m c (t.val + 1) (fullSum (inT m c t) (chunkX (inX m c t)) st.s)
      (fullBest (grid0.coords t) (inT m c t) (chunkX (inX m c t)) st.b)
      (fullArg (grid0.coords t) (inT m c t) (chunkX (inX m c t)) st.b st.g)
      (esFill (16 * (grid0.coords t 1).val) 16 (fun n => expV (inT m c t) (chunkX (inX m c t) n)) X9) := by
  intro _
  rw [hst]
  refine ⟨rfl, rfl, rfl, fun y hy => ?_⟩
  show _ = esFill (16 * (grid0.coords t 1).val) 16 (fun n => expV (inT m c t) (chunkX (inX m c t) n)) st.e y
  have e : (grid0.coords t 1).val = t.val % 4 := crd1 t
  rw [e]
  exact esFill_agree _ _ _ _ _ h9 y (by omega)

/-- The exponentials after a row block's last point: all of them are known. -/
theorem esFill_last (e : Nat → FVec F S8x2048 .f32) (g g' : Vec F S49x8x2048 .f32) (h : ∀ y, (y 0).val < 48 → g y = g' y) :
    esFill 48 1 e g = esFill 48 1 e g' := by
  funext y
  have : (y 0).val < 49 := (y 0).isLt
  exact esFill_agree 48 1 e g g' h y (by omega)

/-- Before the last column block the probabilities' window is left as found; -/
theorem leaves2_idle (t : Fin cfg0.N) (h : t.val % 4 ≠ 3) (d) :
    owns (c : Thread nD τ) (st0_2 t) fullShare ((dats m 0 c).before 2 t d) ⊢ ((dats m 0 c).leaves 2 t : sProp 𝕄) := by
  rw [Dat.leaves_idle (dats m 0 c) 2 t
    (by show (!(k0_cond3 (grid0.coords t) == 1#1)) = true
        rw [Bool.not_eq_true', beq_eq_false_iff_ne]; exact fun e => h ((cond3_iff t).1 e))
    (Bool.eq_false_iff.2 fun e => h ((flush0_2 t).1 e))]
  iintro H
  iexists d
  iexact H

/-- and the tokens'. -/
theorem leaves3_idle (t : Fin cfg0.N) (h : t.val % 4 ≠ 3) (d) :
    owns (c : Thread nD τ) (st0_3 t) fullShare ((dats m 0 c).before 3 t d) ⊢ ((dats m 0 c).leaves 3 t : sProp 𝕄) := by
  rw [Dat.leaves_idle (dats m 0 c) 3 t
    (by show (!(k0_cond3 (grid0.coords t) == 1#1)) = true
        rw [Bool.not_eq_true', beq_eq_false_iff_ne]; exact fun e => h ((cond3_iff t).1 e))
    (Bool.eq_false_iff.2 fun e => h ((flush0_3 t).1 e))]
  iintro H
  iexists d
  iexact H

/-- At the last column block the probabilities' window is left at the row block's probabilities; -/
theorem leaves2_live (t : Fin cfg0.N) (h : t.val % 4 = 3) :
    owns (c : Thread nD τ) (st0_2 t) fullShare (probV (stAt m c (t.val + 1)).e (invSum (stAt m c (t.val + 1)).s)) ⊢ ((dats m 0 c).leaves 2 t : sProp 𝕄) := by
  have hi : cfg0.idle 2 (cfg0.grid.coords t) = false := by
    show (!(k0_cond3 (grid0.coords t) == 1#1)) = false
    rw [(cond3_iff t).2 h]; rfl
  unfold Dat.leaves
  rw [hi]
  exact .rfl

/-- and the tokens' at its tokens. -/
theorem leaves3_live (t : Fin cfg0.N) (h : t.val % 4 = 3) :
    owns (c : Thread nD τ) (st0_3 t) fullShare (tokV (stAt m c (t.val + 1)).b (stAt m c (t.val + 1)).g) ⊢ ((dats m 0 c).leaves 3 t : sProp 𝕄) := by
  have hi : cfg0.idle 3 (cfg0.grid.coords t) = false := by
    show (!(k0_cond3 (grid0.coords t) == 1#1)) = false
    rw [(cond3_iff t).2 h]; rfl
  have e : (dats m 0 c).after 3 t = tokV (stAt m c (t.val + 1)).b (stAt m c (t.val + 1)).g := by
    delta dats
    dsimp only
  rw [← e]
  unfold Dat.leaves
  rw [hi]

/-- Every grid point meets its obligation. -/
theorem obligation : BodyObligationLoose (dats m 0 c) (defs₀ (F := F)) Variants.none () Set.univ := fun t => by
  rw [bigSep_W0, bigSep_W0]
  by_cases h3 : t.val % 4 = 3
  · refine point_of m c t (fun _ => probV (stAt m c (t.val + 1)).e (invSum (stAt m c (t.val + 1)).s))
      (fun _ => tokV (stAt m c (t.val + 1)).b (stAt m c (t.val + 1)).g) (fun _ => leaves2_live m c t h3) (fun _ => leaves3_live m c t h3) ?_
    intro d X4 X5 X6 X7 X8 X9 hI
    obtain ⟨rfl, rfl, rfl, h9⟩ := hI (by omega)
    refine ⟨(stAt m c (t.val + 1)).s, (stAt m c (t.val + 1)).b, (stAt m c (t.val + 1)).g, (stAt m c (t.val + 1)).e, fun h => absurd h (by omega), ?_⟩
    have h := lastSteps c (grid0.coords t) (fun e => by have := (cond1_iff t).1 e; omega) (fun e => (cond2_iff t).1 e h3) ((cond3_iff t).2 h3)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
      (Memref.whole cc0_scratch0) (Memref.isWhole_whole _) (Memref.whole cc0_scratch1) (Memref.isWhole_whole _) (Memref.whole cc0_scratch2) (Memref.isWhole_whole _) (Memref.whole cc0_scratch3) (Memref.isWhole_whole _)
      (win0_0.fill (grid0.coords t) d (iblk m c 0 t)) (inT m c t) X4 X5 (stAt m c t.val).s (stAt m c t.val).b (stAt m c t.val).g X9
    have e1 : (grid0.coords t 1).val = 3 := (crd1 t).trans h3
    rw [tailExp_fill m c t h3 d] at h
    unfold tailSum tailBest tailArg at h
    rw [tailExp_fill m c t h3 d, tailVal_fill m c t h3 d, e1, esFill_last _ _ (stAt m c t.val).e (by rw [h3] at h9; exact h9)] at h
    rw [stAt_last m c t h3]
    unfold stLast tailSum tailBest tailArg
    rw [e1]
    exact h
  · refine point_of m c t (fun x => x) (fun x => x) (leaves2_idle m c t h3) (leaves3_idle m c t h3) ?_
    intro d X4 X5 X6 X7 X8 X9 hI
    rw [fill_full m c t d h3]
    by_cases h0 : t.val % 4 = 0
    · refine ⟨_, _, _, _, Inv.mid m c t h3 stInit (stAt_first m c t h0) X9 (fun y hy => by omega), ?_⟩
      exact firstSteps c (grid0.coords t) ((cond1_iff t).2 h0) ((cond2_iff t).2 h3) (fun e => h3 ((cond3_iff t).1 e))
        _ _ _ _ _ _ _ _ _ _ _ _ _ _ _ _ _ _ _ _ _ _ _ _
    · obtain ⟨rfl, rfl, rfl, h9⟩ := hI h0
      refine ⟨_, _, _, _, Inv.mid m c t h3 (stAt m c t.val) (stAt_mid m c t h3 h0) X9 h9, ?_⟩
      exact midSteps c (grid0.coords t) (fun e => h0 ((cond1_iff t).1 e)) ((cond2_iff t).2 h3) (fun e => h3 ((cond3_iff t).1 e))
        _ _ _ _ _ _ _ _ _ _ _ _ _ _ _ _ _ _ _ _ _ _ _ _

/-- What core's scratch is at entry says nothing of the accumulators; -/
theorem acc_in : Pipeline.ΦA (U := UR nD τ) (Val := Elt F) spec0 c ⊢ ((dats m 0 c).Φ 0 : sProp 𝕄) := by
  unfold Pipeline.ΦA
  rw [scopedRest0_eq, show (dats m 0 c).Φ 0 = iprop(Acc m c 0 ∗ ∃ r, prngReg c r) from rfl]
  unfold Acc
  iintro ⟨⟨⟨%f6, H6⟩, ⟨%f7, H7⟩, ⟨%f8, H8⟩, ⟨%f9, H9⟩⟩, Hr⟩
  isplitr [Hr]
  · iexists f6; iexists f7; iexists f8; iexists f9
    isplitr
    · ipureintro; exact fun h => absurd rfl h
    simp only [owns_whole_eq]
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  · iexact Hr

/-- nor at the end. -/
theorem acc_out : ((dats m 0 c).Φ (Fin.last cfg0.N) : sProp 𝕄) ⊢ Pipeline.ΦA (U := UR nD τ) (Val := Elt F) spec0 c := by
  unfold Pipeline.ΦA
  rw [scopedRest0_eq, show (dats m 0 c).Φ (Fin.last cfg0.N) = iprop(Acc m c cfg0.N ∗ ∃ r, prngReg c r) from rfl]
  unfold Acc
  simp only [owns_whole_eq]
  iintro ⟨⟨%X6, %X7, %X8, %X9, -, ⟨%f6, -, H6⟩, ⟨%f7, -, H7⟩, ⟨%f8, -, H8⟩, ⟨%f9, -, H9⟩⟩, Hr⟩
  isplitr [Hr]
  · isplitl [H6]; · iexists f6; iexact H6
    isplitl [H7]; · iexists f7; iexact H7
    isplitl [H8]; · iexists f8; iexact H8
    iexists f9; iexact H9
  · iexact Hr

variable (ρ : Dev nD → PrngReg)

/-- The arrays' and the other buffers' contents at the end of a run. -/
abbrev Post (r : PUnit × MemSt nD τ sig (Elt F)) : Prop :=
  Pipeline.FramePost cfgs (dats m) 0 (Pipeline.afterTail₀ cfgs (dats m) 0 (V0 m) [hostOps1]) r

-- the launch lemma's implicit arguments are found by unfolding plain definitions in a metavariable's type
set_option backward.isDefEq.respectTransparency.types false in
/-- Every run of the program ends with its arrays at what the write-backs leave and every semaphore at zero. -/
theorem run_main : θ_run defs (onTc (τ := τ) (main (F := F))) (s₀ m ρ) (fun r => Post m r ∧ r.2.sem = fun _ => 0) :=
  Pipeline.θ_run_frame_around_track cfgs (dats m) 0 launch0 defs₀ Variants.none m ρ main
    (hbody := obligation m)
    (hshare := fun c => (dats m 0 c).share_full fun _ => rfl) (howed := fun _ _ => rfl)
    (V₀ := V0 m) (opss := [hostOps1]) sfx_sub sfx_fresh sfx_keeps (hmain := Gen.hmain m Variants.none) (hA := fun _ _ => rfl)
    (hin := acc_in m) (hout := acc_out m) (Q' := fun r => Post m r ∧ r.2.sem = fun _ => 0) (hQ' := fun _ h => h)

end Cert.Proof

end
-- ==== Proof.Words.lean ====
/- Hand-written, untrusted: the Threefry hash and the noise, on single words and numbers. -/
module

public import Idealize.ShloMosaic.PureOps
public import Idealize.ShloMosaic.PureOps.Ideal

@[expose] public section

noncomputable section

namespace Cert.Proof

open Idealize.ShloMosaic

/-- A pair of words. -/
abbrev Pair : Type := BitVec 32 × BitVec 32

/-- One round: the sum, and the second word rotated left by `r` (with `s = 32 - r`), xored with the sum. -/
def rnd (r s : BitVec 32) (p : Pair) : Pair :=
  (IntOp.addi p.1 p.2, IntOp.xori (IntOp.ori (IntOp.shli .vector p.2 r) (IntOp.shrui .vector p.2 s)) (IntOp.addi p.1 p.2))

/-- The key words `a`, `b` and the group's number `n` added. -/
def inj (a b n : BitVec 32) (p : Pair) : Pair := (IntOp.addi p.1 a, IntOp.addi (IntOp.addi p.2 b) n)

/-- Four rounds of the first schedule. -/
def four (p : Pair) : Pair := rnd 6#32 26#32 (rnd 26#32 6#32 (rnd 15#32 17#32 (rnd 13#32 19#32 p)))

/-- Four rounds of the second schedule. -/
def four' (p : Pair) : Pair := rnd 24#32 8#32 (rnd 16#32 16#32 (rnd 29#32 3#32 (rnd 17#32 15#32 p)))

/-- The Threefry hash of the pair `p` of counters under the key `(0, 42)`. -/
def hash (p : Pair) : Pair :=
  inj 466689008#32 0#32 5#32 <| four <| inj 42#32 466689008#32 4#32 <| four' <| inj 0#32 42#32 3#32 <| four <|
    inj 466689008#32 0#32 2#32 <| four' <| inj 42#32 466689008#32 1#32 <| four
      (IntOp.addi p.1 0#32, IntOp.addi p.2 42#32)

/-- The random bits of counter `n`. -/
def bitsOf (n : BitVec 32) : BitVec 32 := IntOp.xori (hash (0#32, n)).1 (hash (0#32, n)).2

/-- The bits as a number from 0 up to 1. -/
def unitOf (bits : BitVec 32) : EReal :=
  Ideal.ofBits .f32 (IntOp.ori (IntOp.shrui .vector bits 9#32) 1065353216#32) - Ideal.ofBits .f32 0x3F800000#32

/-- The Gumbel noise of counter `n`. -/
def noise (n : BitVec 32) : EReal :=
  -Ideal.log (-Ideal.log (max (Ideal.ofBits .f32 0x00800000#32) (unitOf (bitsOf n))))

/-- A shift by fewer places than the word's is one shift, whoever does it. -/
theorem shli_host {x r : BitVec 32} (h : r.toNat < 32) : IntOp.shli .host x r = IntOp.shli .vector x r := by
  unfold IntOp.shli; rw [if_pos h, if_pos h]

/-- And so to the right. -/
theorem shrui_host {x r : BitVec 32} (h : r.toNat < 32) : IntOp.shrui .host x r = IntOp.shrui .vector x r := by
  unfold IntOp.shrui; rw [if_pos h, if_pos h]

end Cert.Proof

end
-- ==== Proof.First.lean ====
/- Hand-written, untrusted: the first place at which a sequence of extended reals is greatest, found lane by lane. -/
module

public import Idealize.ShloMosaic.PureOps.Ideal

@[expose] public section

namespace Cert.Proof

/-- `C` is the first of the first `N` places at which `r` is greatest. -/
structure FirstMax (r : Nat → EReal) (N C : Nat) : Prop where
  lt : C < N
  le : ∀ D, D < N → r D ≤ r C
  first : ∀ D, D < C → r D < r C

/-- There is one such place at most. -/
theorem FirstMax.unique {r : Nat → EReal} {N C D : Nat} (h : FirstMax r N C) (h' : FirstMax r N D) : C = D := by
  rcases Nat.lt_trichotomy C D with e | e | e
  · exact absurd (h'.first C e) (not_lt.2 (h.le D h'.lt))
  · exact e
  · exact absurd (h.first D e) (not_lt.2 (h'.le C h.lt))

/-- `b` is the greatest of `v lo, …, v (n - 1)`, and `g` is where it is first met (`col` names the places). -/
def Run {α : Type} (v : Nat → EReal) (col : Nat → α) (lo n : Nat) (b : EReal) (g : α) : Prop :=
  (∀ q, lo ≤ q → q < n → v q ≤ b) ∧ ∃ q, lo ≤ q ∧ q < n ∧ v q = b ∧ (∀ p, lo ≤ p → p < q → v p < b) ∧ g = col q

/-- `b` is the greatest of −∞ and `v 0, …, v (n - 1)`; unless it is −∞ (and `g` is `z`), `g` is where it is first met. -/
def Peak {α : Type} (z : α) (v : Nat → EReal) (col : Nat → α) (n : Nat) (b : EReal) (g : α) : Prop :=
  (∀ q, q < n → v q ≤ b) ∧ ((b = ⊥ ∧ g = z) ∨ ∃ q, q < n ∧ v q = b ∧ ⊥ < b ∧ (∀ p, p < q → v p < b) ∧ g = col q)

variable {α : Type} {v : Nat → EReal} {col : Nat → α} {z : α}

/-- One place. -/
theorem Run.one (lo : Nat) : Run v col lo (lo + 1) (v lo) (col lo) :=
  ⟨fun q h h' => by obtain rfl : q = lo := by omega
                    exact le_rfl,
    lo, le_rfl, by omega, rfl, fun p h h' => by omega, rfl⟩

/-- One place more. -/
theorem Run.step {lo n : Nat} {b : EReal} {g : α} (h : Run v col lo n b g) (hn : lo ≤ n) :
    Run v col lo (n + 1) (if b < v n then v n else b) (if b < v n then col n else g) := by
  obtain ⟨hle, q, h1, h2, h3, h4, h5⟩ := h
  by_cases hb : b < v n
  · rw [if_pos hb, if_pos hb]
    refine ⟨fun p hp hp' => ?_, n, hn, by omega, rfl, fun p hp hp' => (hle p hp hp').trans_lt hb, rfl⟩
    rcases Nat.lt_or_ge p n with e | e
    · exact (hle p hp e).trans hb.le
    · obtain rfl : p = n := by omega
      exact le_rfl
  · rw [if_neg hb, if_neg hb]
    refine ⟨fun p hp hp' => ?_, q, h1, by omega, h3, h4, h5⟩
    rcases Nat.lt_or_ge p n with e | e
    · exact hle p hp e
    · obtain rfl : p = n := by omega
      exact not_lt.1 hb

/-- Nothing yet. -/
theorem Peak.zero : Peak z v col 0 ⊥ z := ⟨fun q h => absurd h (Nat.not_lt_zero q), .inl ⟨rfl, rfl⟩⟩

/-- A run more. -/
theorem Peak.merge {n k : Nat} {b b' : EReal} {g g' : α} (h : Peak z v col n b g) (h' : Run v col n k b' g') (hk : n ≤ k) :
    Peak z v col k (if b < b' then b' else b) (if b < b' then g' else g) := by
  obtain ⟨hle, hor⟩ := h
  obtain ⟨hle', q, h1, h2, h3, h4, h5⟩ := h'
  by_cases hb : b < b'
  · rw [if_pos hb, if_pos hb]
    refine ⟨fun p hp => ?_, .inr ⟨q, h2, h3, bot_le.trans_lt hb, fun p hp => ?_, h5⟩⟩
    · rcases Nat.lt_or_ge p n with e | e
      · exact (hle p e).trans hb.le
      · exact hle' p e hp
    · rcases Nat.lt_or_ge p n with e | e
      · exact (hle p e).trans_lt hb
      · exact h4 p e hp
  · rw [if_neg hb, if_neg hb]
    refine ⟨fun p hp => ?_, ?_⟩
    · rcases Nat.lt_or_ge p n with e | e
      · exact hle p e
      · exact (hle' p e hp).trans (not_lt.1 hb)
    · rcases hor with h | ⟨q, a1, a2, a3, a4, a5⟩
      · exact .inl h
      · exact .inr ⟨q, by omega, a2, a3, a4, a5⟩

/-- Lane by lane: if each of `L` lanes holds the greatest of its places `L q + l` and the first such place, then the least
    place over the lanes that hold the greatest of all is the first at which `r` is greatest. -/
theorem first_of_lanes {r : Nat → EReal} {L Q N : Nat} (hN : 0 < N) (hQ : N ≤ L * Q) (hout : ∀ C, N ≤ C → r C = ⊥)
    {b : Nat → EReal} {g : Nat → Nat} (h : ∀ l, l < L → Peak 0 (fun q => r (L * q + l)) (fun q => L * q + l) Q (b l) (g l))
    {M : EReal} (hM : ∀ l, l < L → b l ≤ M) (hM' : ∃ l, l < L ∧ b l = M)
    {t : Nat} (ht : ∃ l, l < L ∧ b l = M ∧ g l = t) (ht' : ∀ l, l < L → b l = M → t ≤ g l) : FirstMax r N t := by
  have hL : 0 < L := by rcases hM' with ⟨l, hl, -⟩; omega
  have hall : ∀ C, r C ≤ M := fun C => by
    by_cases hC : C < N
    · have h1 : C % L < L := Nat.mod_lt _ hL
      have h2 : C / L < Q := Nat.div_lt_of_lt_mul (hC.trans_le hQ)
      have h3 := (h _ h1).1 _ h2
      have hC' : L * (C / L) + C % L = C := Nat.div_add_mod C L
      simp only [hC'] at h3
      exact h3.trans (hM _ h1)
    · rw [hout C (by omega)]; exact bot_le
  obtain ⟨l, hl, hbl, hgl⟩ := ht
  rcases (h l hl).2 with ⟨e, e'⟩ | ⟨q, h1, h2, h3, h4, h5⟩
  · have hMb : M = ⊥ := hbl ▸ e
    obtain rfl : t = 0 := hgl ▸ e'
    have hr : ∀ C, r C = ⊥ := fun C => le_bot_iff.1 (hMb ▸ hall C)
    exact ⟨hN, fun D _ => by rw [hr, hr], fun D hD => absurd hD (Nat.not_lt_zero D)⟩
  · have hrt : r t = M := by rw [← hgl, h5]; exact h2.trans hbl
    have hMb : ⊥ < M := hbl ▸ h3
    refine ⟨?_, fun D _ => hrt ▸ hall D, fun D hD => ?_⟩
    · by_contra hc
      rw [hout t (by omega)] at hrt
      exact hMb.ne hrt
    · rw [hrt]
      refine lt_of_le_of_ne (hall D) fun eD => ?_
      have hDN : D < N := by
        by_contra hc
        rw [hout D (by omega)] at eD
        exact hMb.ne eD
      have k1 : D % L < L := Nat.mod_lt _ hL
      have k2 : D / L < Q := Nat.div_lt_of_lt_mul (hDN.trans_le hQ)
      have kD : L * (D / L) + D % L = D := Nat.div_add_mod D L
      have k3 := (h _ k1).1 _ k2
      simp only [kD] at k3
      have k4 : b (D % L) = M := le_antisymm (hM _ k1) (eD ▸ k3)
      have k5 := ht' _ k1 k4
      rcases (h _ k1).2 with ⟨e, -⟩ | ⟨p, -, -, -, p4, p5⟩
      · exact hMb.ne (k4 ▸ e).symm
      · rw [p5] at k5
        have k6 : D / L < p := by
          by_contra hc
          dsimp only at k5
          have := Nat.mul_le_mul_left L (not_lt.1 hc)
          omega
        have := p4 _ k6
        simp only [kD, k4, eD] at this
        exact lt_irrefl _ this

end Cert.Proof
-- ==== Proof.Lanes.lean ====
/- Hand-written, untrusted: what one lane of the kernel's vectors holds, over the extended reals. -/
module

public import proofs.«01_k».proof.Proof.State
public import proofs.«01_k».proof.Proof.Words
public import proofs.«01_k».proof.Proof.First
public import Idealize.ShloMosaic.PureOps.Ideal.Laws

@[expose] public section

noncomputable section

namespace Cert.Proof

open Cert.KernelIdeal Cert.KernelIdeal.Gen
open Idealize.ShloMosaic
open Idealize.ShloMosaic.TcCoe Idealize.ShloMosaic.ValueIdx

/-! ## The hash -/

/-- A lane of a pair of vectors. -/
def lane (p : IVec S8x2048 32 × IVec S8x2048 32) (y : S8x2048.Idx) : Pair := (p.1 y, p.2 y)

/-- A lane of a round is the round of the lane. -/
theorem lane_rnd (r s : BitVec 32) (p) (y) : lane (rndV r s p) y = rnd r s (lane p y) := rfl
/-- A lane of a key injection is the injection into the lane. -/
theorem lane_inj (a b n : BitVec 32) (p) (y) : lane (injV a b n p) y = inj a b n (lane p y) := rfl
/-- A lane of the four rounds of the first kind. -/
theorem lane_quadA (p) (y) : lane (quadA p) y = four (lane p y) := by
  unfold quadA four; simp only [lane_rnd]
/-- A lane of the four rounds of the second kind. -/
theorem lane_quadB (p) (y) : lane (quadB p) y = four' (lane p y) := by
  unfold quadB four'; simp only [lane_rnd]

/-- A lane of the hash is the hash of the lane's counter. -/
theorem lane_hash (n : IVec S8x2048 32) (y : S8x2048.Idx) : lane (hashV n) y = hash (0#32, n y) := by
  unfold hashV hash
  simp only [lane_inj, lane_quadA, lane_quadB]
  have h : lane (addi (broadcast S8x2048 0#32) (broadcast S8x2048 0#32), addi n (broadcast S8x2048 42#32)) y
    = (IntOp.addi 0#32 0#32, IntOp.addi (n y) 42#32) := rfl
  rw [h]

/-- A lane of the exclusive or of a pair of vectors. -/
theorem lane_xor (p : IVec S8x2048 32 × IVec S8x2048 32) (y : S8x2048.Idx) :
    xori p.1 p.2 y = IntOp.xori (lane p y).1 (lane p y).2 := rfl

/-- A lane of the bits. -/
theorem lane_bits (n : IVec S8x2048 32) (y : S8x2048.Idx) : bitsV n y = bitsOf (n y) := by
  unfold bitsOf bitsV
  rw [← lane_hash, lane_xor]

/-- A lane of the noise of given bits. -/
theorem lane_noise (b : IVec S8x2048 32) (y : S8x2048.Idx) : gumbelV (F := Ideal) b y = Ideal.ofBits .f32 0x00000000#32
      - Ideal.log (Ideal.ofBits .f32 0x00000000#32 - Ideal.log (max (Ideal.ofBits .f32 0x00800000#32) (unitOf (b y)))) := rfl

/-- A lane of the noise. -/
theorem lane_gumbel (n : IVec S8x2048 32) (y : S8x2048.Idx) : gumbelV (F := Ideal) (bitsV n) y = noise (n y) := by
  rw [lane_noise, lane_bits, Ideal.ofBits_zero_f32, zero_sub, zero_sub]; rfl

/-! ## The counters -/

/-- The number of a lane's column. -/
theorem lane_col (i : grid0.Coords) (k : Nat) (y : S8x2048.Idx) :
    colV i (BitVec.ofNat 32 (2048 * k)) y = BitVec.ofNat 32 (2048 * (16 * (i 1).val + k) + (y 1).val) := by
  show (BitVec.ofNat 32 (i 1).val * 32768#32 + BitVec.ofNat 32 (2048 * k)) + iota .tc S8x2048 32 [1] iota_S8x2048_d1_w32 y = _
  rw [iota_single_apply]
  apply BitVec.eq_of_toNat_eq
  simp only [BitVec.toNat_add, BitVec.toNat_mul, BitVec.toNat_ofNat]
  omega

/-- The counter's number, word by word. -/
theorem counter_words (r I C : Nat) : BitVec.ofNat 32 r * BitVec.ofNat 32 100000 + BitVec.ofNat 32 I * BitVec.ofNat 32 800000 + BitVec.ofNat 32 C
    = BitVec.ofNat 32 (100000 * (8 * I + r) + C) := by
  rw [← BitVec.ofNat_mul, ← BitVec.ofNat_mul, ← BitVec.ofNat_add, ← BitVec.ofNat_add]
  refine congrArg (BitVec.ofNat 32) ?_
  omega

/-- The row part of a lane's counter. -/
theorem lane_row (i : grid0.Coords) (y : S8x2048.Idx) :
    k0_pay5 i y = iota .tc S8x2048 32 [0] iota_S8x2048_d0_w32 y * BitVec.ofNat 32 100000 + BitVec.ofNat 32 (i 0).val * BitVec.ofNat 32 800000 := rfl

/-- A lane of a sum of words. -/
theorem lane_add (a b : IVec S8x2048 32) (y : S8x2048.Idx) : addi a b y = a y + b y := rfl

/-- The number of a lane's counter. -/
theorem lane_counter (i : grid0.Coords) (k : Nat) (y : S8x2048.Idx) :
    addi (k0_pay5 i) (colV i (BitVec.ofNat 32 (2048 * k))) y
      = BitVec.ofNat 32 (100000 * (8 * (i 0).val + (y 0).val) + (2048 * (16 * (i 1).val + k) + (y 1).val)) := by
  rw [lane_add, lane_col, lane_row, iota_single_apply]
  exact counter_words _ _ _

/-! ## The ranks and exponentials -/

/-- A row's ranks, by column: noise plus scaled logit, and −∞ past the row's end. -/
def rankOf (R : Nat) (T : EReal) (X : Nat → EReal) (C : Nat) : EReal :=
  if C < 100000 then noise (BitVec.ofNat 32 (100000 * R + C)) + Ideal.div (X C) T else ⊥

/-- A row's exponentials, by column, and 0 past the row's end. -/
def expOf (T : EReal) (X : Nat → EReal) (C : Nat) : EReal := if C < 100000 then Ideal.exp (Ideal.div (X C) T) else 0

/-- A lane of the temperatures spread over the chunk. -/
theorem lane_temp (t : FVec Ideal S8x1 .f32) (y : S8x2048.Idx) :
    broadcastTo S8x2048 t broadcasts_S8x1_S8x2048 y = t (ix2 (y 0) 0) :=
  broadcastTo_apply t _ y (ix2 (y 0) 0) (Fin.forall_fin_two.2 ⟨rfl, rfl⟩)

section Chunk

variable (i : grid0.Coords) (t : FVec Ideal S8x1 .f32) (x : Vec Ideal S8x2048 .f32) (k : Nat) (y : S8x2048.Idx) (X : Nat → EReal)

/-- A lane of the quotients' exponentials, in terms of the lanes they are made of. -/
theorem lane_exp_eq : expV t x y = Ideal.exp (Ideal.div (x y) (broadcastTo S8x2048 t broadcasts_S8x1_S8x2048 y)) := rfl

/-- A lane of a sum and of a quotient. -/
theorem lane_addf (a b : FVec Ideal S8x2048 .f32) : addf a b y = a y + b y := rfl
/-- A lane of the scaled logits: the logit over its row's temperature. -/
theorem lane_scaled : scaledV t x y = Ideal.div (x y) (t (ix2 (y 0) 0)) := by
  rw [← lane_temp t y]
  rfl

/-- A lane's exponential. -/
theorem lane_exp (hC : 2048 * (16 * (i 1).val + k) + (y 1).val < 100000) (hx : x y = X (2048 * (16 * (i 1).val + k) + (y 1).val)) :
    expV t x y = expOf (t (ix2 (y 0) 0)) X (2048 * (16 * (i 1).val + k) + (y 1).val) := by
  unfold expOf
  rw [if_pos hC, ← hx, lane_exp_eq, lane_temp]

/-- A lane's rank. -/
theorem lane_rank (hC : 2048 * (16 * (i 1).val + k) + (y 1).val < 100000) (hx : x y = X (2048 * (16 * (i 1).val + k) + (y 1).val)) :
    valV i (BitVec.ofNat 32 (2048 * k)) t x y
      = rankOf (8 * (i 0).val + (y 0).val) (t (ix2 (y 0) 0)) X (2048 * (16 * (i 1).val + k) + (y 1).val) := by
  unfold rankOf
  rw [if_pos hC, ← hx]
  delta valV
  rw [lane_addf, lane_scaled, lane_gumbel, lane_counter]

end Chunk

end Cert.Proof

end
-- ==== Proof.Accs.lean ====
/- Hand-written, untrusted: what one lane of the kernel's accumulators holds, over the extended reals. -/
module

public import proofs.«01_k».proof.Proof.Lanes
public import proofs.«01_k».proof.Proof.First
public import Idealize.ShloMosaic.PureOps.Ideal.Laws

@[expose] public section

noncomputable section

namespace Cert.Proof

open Cert.KernelIdeal Cert.KernelIdeal.Gen
open Idealize.ShloMosaic
open Idealize.ShloMosaic.TcCoe Idealize.ShloMosaic.ValueIdx

attribute [local irreducible] valV expV colV rankOf expOf

/-! ## The accumulators -/

/-- What a lane's accumulators hold after the first `n` chunks of a row with ranks `rk` and exponentials `ex`. -/
structure LaneHolds (rk ex : Nat → EReal) (st : St Ideal) (y : S8x2048.Idx) (n : Nat) : Prop where
  sum : st.s y = ∑ q ∈ Finset.range n, ex (2048 * q + (y 1).val)
  best : Peak 0#32 (fun q => rk (2048 * q + (y 1).val)) (fun q => BitVec.ofNat 32 (2048 * q + (y 1).val)) n (st.b y) (st.g y)
  kept : ∀ q (h : q < 49), q < n → st.e (ix3 ⟨q, h⟩ (y 0) (y 1)) = ex (2048 * q + (y 1).val)

/-- Comparing and choosing is choosing by the order. -/
theorem choose_gt {α : Type} (a b : EReal) (x z : α) :
    (if Ideal.cmp .ogt a b = 1#1 then x else z) = if b < a then x else z := by
  unfold Ideal.cmp
  by_cases h : b < a
  · rw [if_pos h, if_pos]; simp [h]
  · rw [if_neg h, if_neg]; simp [h]

/-- A lane of a choice between vectors. -/
theorem lane_gt {α : Type} (a b : FVec Ideal S8x2048 .f32) (p q : S8x2048.Idx → α) (y : S8x2048.Idx) :
    select (cmpf .ogt a b) p q y = if b y < a y then p y else q y := choose_gt _ _ _ _

/-- A lane of the kept exponentials after some chunks are written. -/
theorem lane_fill (lo n : Nat) (w : Nat → FVec Ideal S8x2048 .f32) (e : Vec Ideal S49x8x2048 .f32) (q : Nat) (h : q < 49) (y : S8x2048.Idx) :
    esFill lo n w e (ix3 ⟨q, h⟩ (y 0) (y 1)) = if lo ≤ q ∧ q < lo + n then w (q - lo) y else e (ix3 ⟨q, h⟩ (y 0) (y 1)) :=
  congrArg (fun z => if lo ≤ q ∧ q < lo + n then w (q - lo) z else e (ix3 ⟨q, h⟩ (y 0) (y 1))) (eq_ix2 y).symm

section Fold

variable (v : Fin 16 → FVec Ideal S8x2048 .f32) (d : Fin 16 → IVec S8x2048 32) (y : S8x2048.Idx) (k : Nat)

/-- A lane of the greatest rank of the chunks so far, one chunk on. -/
theorem lane_best_step : bestOf v (k + 1) y
    = if bestOf v k y < v (Fin.ofNat 16 (k + 1)) y then v (Fin.ofNat 16 (k + 1)) y else bestOf v k y := lane_gt _ _ _ _ _
/-- A lane of the column it was met at, one chunk on. -/
theorem lane_arg_step : argOf v d (k + 1) y
    = if bestOf v k y < v (Fin.ofNat 16 (k + 1)) y then d (Fin.ofNat 16 (k + 1)) y else argOf v d k y := lane_gt _ _ _ _ _
/-- A lane of the sum of the chunks so far, one chunk on. -/
theorem lane_sum_step : sumOf v (k + 1) y = sumOf v k y + v (Fin.ofNat 16 (k + 1)) y := rfl

/-- A lane of the greatest of sixteen vectors, and of its column. -/
theorem lane_run (rk : Nat → EReal) (col : Nat → BitVec 32) (lo : Nat) (hv : ∀ k : Fin 16, v k y = rk (lo + k.val))
    (hd : ∀ k : Fin 16, d k y = col (lo + k.val)) (hk : k < 16) :
    Run rk col lo (lo + (k + 1)) (bestOf v k y) (argOf v d k y) := by
  induction k with
  | zero =>
    have e1 : bestOf v 0 y = rk lo := hv 0
    have e2 : argOf v d 0 y = col lo := hd 0
    rw [e1, e2]
    exact Run.one lo
  | succ k ih =>
    have e : (Fin.ofNat 16 (k + 1)).val = k + 1 := Nat.mod_eq_of_lt hk
    rw [lane_best_step, lane_arg_step, hv, hd, e]
    exact (ih (by omega)).step (by omega)

end Fold

/-- A lane of a choice under a mask. -/
theorem lane_mask {α : Type} (q : IVec S8x2048 1) (a b : S8x2048.Idx → α) (y : S8x2048.Idx) :
    select q a b y = if q y = 1#1 then a y else b y := rfl

/-- A lane of the constant 0. -/
theorem lane_zero (y : S8x2048.Idx) : broadcast S8x2048 (Scalar.ofBits (F := Ideal) .f32 0x00000000#32) y = 0 := Ideal.ofBits_zero_f32

/-- A lane of the constant −∞. -/
theorem lane_bot (y : S8x2048.Idx) : broadcast S8x2048 (Scalar.ofBits (F := Ideal) .f32 0xFF800000#32) y = ⊥ := by
  show Ideal.ofBits .f32 0xFF800000#32 = ⊥
  simp [Ideal.ofBits, Ideal.ieee]

/-- Before the first chunk. -/
theorem LaneHolds.init (rk ex : Nat → EReal) (y : S8x2048.Idx) : LaneHolds rk ex stInit y 0 where
  sum := by rw [Finset.range_zero, Finset.sum_empty]; exact Ideal.ofBits_zero_f32
  best := by
    have h : (stInit (F := Ideal)).b y = ⊥ := lane_bot y
    rw [h]; exact Peak.zero
  kept q _ h := absurd h (Nat.not_lt_zero q)

section Full

variable (i : grid0.Coords) (t : FVec Ideal S8x1 .f32) (x : Nat → Vec Ideal S8x2048 .f32) (y : S8x2048.Idx) (X : Nat → EReal)

/-- The block's logits are the row's `X`, and all are columns of the array. -/
def BlockHolds : Prop := ∀ k, k < 16 → 2048 * (16 * (i 1).val + k) + (y 1).val < 100000
  ∧ x k y = X (2048 * (16 * (i 1).val + k) + (y 1).val)

variable {i t x y X}

/-- A lane of the sum of a block's first chunks. -/
theorem lane_sumOf (h : BlockHolds i x y X) (k : Nat) (hk : k < 16) :
    sumOf (expAt t x) k y = ∑ q ∈ Finset.range (k + 1), expOf (t (ix2 (y 0) 0)) X (2048 * (16 * (i 1).val + q) + (y 1).val) := by
  induction k with
  | zero => rw [Finset.sum_range_one]; exact lane_exp i t (x 0) 0 y X (h 0 hk).1 (h 0 hk).2
  | succ k ih =>
    rw [Finset.sum_range_succ, ← ih (by omega)]
    have e : (Fin.ofNat 16 (k + 1)).val = k + 1 := Nat.mod_eq_of_lt hk
    have e' : expAt t x (Fin.ofNat 16 (k + 1)) y = expOf (t (ix2 (y 0) 0)) X (2048 * (16 * (i 1).val + (k + 1)) + (y 1).val) := by
      unfold expAt
      rw [e]
      exact lane_exp i t (x (k + 1)) (k + 1) y X (h _ hk).1 (h _ hk).2
    rw [← e']; rfl

/-- A lane of the rank of a block's chunk `k`. -/
theorem lane_valAt (h : BlockHolds i x y X) (k : Fin 16) :
    valAt i t x k y = rankOf (8 * (i 0).val + (y 0).val) (t (ix2 (y 0) 0)) X (2048 * (16 * (i 1).val + k.val) + (y 1).val) := by
  unfold valAt
  exact lane_rank i t (x k.val) k.val y X (h _ k.isLt).1 (h _ k.isLt).2

/-- A lane of the columns of a block's chunk `k`. -/
theorem lane_colAt (k : Fin 16) : colAt i k y = BitVec.ofNat 32 (2048 * (16 * (i 1).val + k.val) + (y 1).val) := by
  unfold colAt
  exact lane_col i k.val y

/-- A lane of the greatest of a block's chunks, and of its column. -/
theorem lane_bestOf (h : BlockHolds i x y X) :
    Run (fun q => rankOf (8 * (i 0).val + (y 0).val) (t (ix2 (y 0) 0)) X (2048 * q + (y 1).val))
      (fun q => BitVec.ofNat 32 (2048 * q + (y 1).val)) (16 * (i 1).val) (16 * (i 1).val + 16)
      (bestOf (valAt i t x) 15 y) (argOf (valAt i t x) (colAt i) 15 y) :=
  lane_run (valAt i t x) (colAt i) y 15 _ _ _ (fun k => lane_valAt h k) (fun k => lane_colAt k) (by decide)

/-- After a full block. -/
theorem LaneHolds.mid {st : St Ideal} (h : BlockHolds i x y X)
    (hs : LaneHolds (rankOf (8 * (i 0).val + (y 0).val) (t (ix2 (y 0) 0)) X) (expOf (t (ix2 (y 0) 0)) X) st y (16 * (i 1).val)) :
    LaneHolds (rankOf (8 * (i 0).val + (y 0).val) (t (ix2 (y 0) 0)) X) (expOf (t (ix2 (y 0) 0)) X) (stMid i t x st) y
      (16 * (i 1).val + 16) where
  sum := by
    unfold stMid fullSum
    dsimp only
    rw [lane_addf, lane_sumOf h 15 (by decide), hs.sum]
    exact (Finset.sum_range_add _ _ _).symm
  best := by
    unfold stMid fullBest fullArg
    dsimp only
    rw [lane_gt, lane_gt]
    exact hs.best.merge (lane_bestOf (t := t) h) (by omega)
  kept q h9 hq := by
    unfold stMid
    dsimp only
    rw [lane_fill]
    by_cases hl : 16 * (i 1).val ≤ q
    · rw [if_pos ⟨hl, hq⟩]
      obtain ⟨k, rfl⟩ := Nat.exists_eq_add_of_le hl
      rw [Nat.add_sub_cancel_left]
      exact lane_exp i t (x k) k y X (h k (by omega)).1 (h k (by omega)).2
    · rw [if_neg (by omega)]
      exact hs.kept q h9 (by omega)

end Full

section Tail

variable {i : grid0.Coords} {t : FVec Ideal S8x1 .f32} {x : Vec Ideal S8x2048 .f32} {y : S8x2048.Idx} {X : Nat → EReal}

/-- After the last block. -/
theorem LaneHolds.last {st : St Ideal} (hi : 16 * (i 1).val = 48) (hmask : tailMask i y = 1#1 ↔ (y 1).val < 1696)
    (hx : (y 1).val < 1696 → x y = X (2048 * 48 + (y 1).val))
    (hs : LaneHolds (rankOf (8 * (i 0).val + (y 0).val) (t (ix2 (y 0) 0)) X) (expOf (t (ix2 (y 0) 0)) X) st y 48) :
    LaneHolds (rankOf (8 * (i 0).val + (y 0).val) (t (ix2 (y 0) 0)) X) (expOf (t (ix2 (y 0) 0)) X) (stLast i t x st) y 49 := by
  have hexp : tailExp i t x y = expOf (t (ix2 (y 0) 0)) X (2048 * 48 + (y 1).val) := by
    unfold tailExp
    rw [lane_mask, lane_zero]
    by_cases h : (y 1).val < 1696
    · have h' := lane_exp i t x 0 y X (by omega) (by rw [Nat.add_zero, hi]; exact hx h)
      rw [Nat.add_zero, hi] at h'
      rw [if_pos (hmask.2 h), h']
    · rw [if_neg (fun e => h (hmask.1 e))]
      unfold expOf; rw [if_neg (by omega)]
  have hval : tailVal i t x y = rankOf (8 * (i 0).val + (y 0).val) (t (ix2 (y 0) 0)) X (2048 * 48 + (y 1).val) := by
    unfold tailVal
    rw [lane_mask, lane_bot]
    by_cases h : (y 1).val < 1696
    · have h' := lane_rank i t x 0 y X (by omega) (by rw [Nat.add_zero, hi]; exact hx h)
      rw [Nat.add_zero, hi] at h'
      rw [if_pos (hmask.2 h)]; exact h'
    · rw [if_neg (fun e => h (hmask.1 e))]
      unfold rankOf; rw [if_neg (by omega)]
  have hcol : colV i 0#32 y = BitVec.ofNat 32 (2048 * 48 + (y 1).val) := by
    have h := lane_col i 0 y
    rw [Nat.add_zero, hi] at h
    exact h
  refine ⟨?_, ?_, ?_⟩
  · unfold stLast tailSum
    dsimp only
    rw [lane_addf, hexp, hs.sum]
    exact (Finset.sum_range_succ _ 48).symm
  · have hm := hs.best.merge (Run.one 48) (by omega)
    unfold stLast tailBest tailArg
    dsimp only
    rw [lane_gt, lane_gt, hval, hcol]
    exact hm
  · intro q h9 hq
    unfold stLast
    dsimp only
    rw [lane_fill]
    by_cases hl : q = 48
    · subst hl
      rw [if_pos (by omega)]
      exact hexp
    · rw [if_neg (by omega)]
      exact hs.kept q h9 (by omega)

end Tail

end Cert.Proof

end
-- ==== Proof.Blocks.lean ====
/- Hand-written, untrusted: the kernel's results, element by element, in terms of its arguments. -/
module

public import proofs.«01_k».proof.Proof.Point
public import proofs.«01_k».proof.Proof.Accs

@[expose] public section

noncomputable section

namespace Cert.Proof

open Cert.KernelIdeal Cert.KernelIdeal.Gen
open Idealize.ShloMosaic
open Idealize.ShloMosaic.TcCoe Idealize.ShloMosaic.ValueIdx

variable (m : (ℓ : Loc nD τ sig) → Buf (Elt Ideal) ℓ) (c : Dev nD)

/-- The logits. -/
def logits : Vec Ideal S128x100000 .f32 := m ((c.tc : Thread nD τ).loc main_arg0)

/-- The temperatures. -/
def temps : Vec Ideal S128 .f32 := m ((c.tc : Thread nD τ).loc main_arg1)

/-- Row `R` of an array, by column; anything (here 0) past its end. -/
def rowOf (A : Vec Ideal S128x100000 .f32) (R : Fin 128) (C : Nat) : EReal := if h : C < 100000 then A (ix2 R ⟨C, h⟩) else 0

/-- Row `r` of the row block of point `t`. -/
def rowAt (t : Fin cfg0.N) (r : Fin 8) : Fin 128 := ⟨8 * (t.val / 4) + r.val, by have : t.val < 64 := N_0 ▸ t.isLt; omega⟩

/-- The logits block, where it is of the array. -/
theorem inX_apply (t : Fin cfg0.N) (y : S8x32768.Idx) (h : 32768 * (t.val % 4) + (y 1).val < 100000) :
    inX m c t y = rowOf (logits m c) (rowAt t (y 0)) (32768 * (t.val % 4) + (y 1).val) := by
  unfold inX Pipeline.Window.fill rowOf
  rw [dif_pos (moved0 t y h), dif_pos h]
  unfold iblk
  rw [View.read_apply]
  refine congrArg (V m c main_arg0) (a₂ := ix2 (rowAt t (y 0)) ⟨32768 * (t.val % 4) + (y 1).val, h⟩) ?_ |>.trans (congrFun (V_main_arg0 m c) _)
  refine funext (Fin.forall_fin_two.2 ⟨Fin.ext ?_, Fin.ext ?_⟩)
  · refine (Pipeline.Window.rect_emb_val win0_0 t _ 0).trans ?_
    show cc0_transform_0 (grid0.coords t) 0 * 8 + _ = 8 * (t.val / 4) + (y 0).val
    rw [(ix0 t).1]; show t.val / 4 * 8 + (y 0).val = _; omega
  · refine (Pipeline.Window.rect_emb_val win0_0 t _ 1).trans ?_
    show cc0_transform_0 (grid0.coords t) 1 * 32768 + _ = 32768 * (t.val % 4) + (y 1).val
    rw [(ix0 t).2]; show t.val % 4 * 32768 + (y 1).val = _; omega

/-- The temperatures as the region finds them: in a column. -/
theorem V_temps (R : Fin 128) : V m c main_v0 (ix2 R 0) = temps m c (ix1 R) := by
  have h : V m c main_v0 = shapeCast S128x1 (temps m c) shapeCasts_S128_S128x1 := rfl
  rw [h]
  refine shapeCast_apply _ _ _ _ ?_
  rfl

/-- The point's block of the temperatures. -/
theorem tix : ∀ t : Fin cfg0.N, cc0_transform_1 (grid0.coords t) 0 = t.val / 4 ∧ cc0_transform_1 (grid0.coords t) 1 = 0 := by
  decide +kernel

/-- The temperatures block. -/
theorem inT_apply (t : Fin cfg0.N) (r : Fin 8) : inT m c t (ix2 r 0) = temps m c (ix1 (rowAt t r)) := by
  rw [← V_temps]
  unfold inT iblk
  rw [View.read_apply]
  refine congrArg (V m c main_v0) (a₂ := ix2 (rowAt t r) 0) ?_
  refine funext (Fin.forall_fin_two.2 ⟨Fin.ext ?_, Fin.ext ?_⟩)
  · refine (Pipeline.Window.rect_emb_val win0_1 t _ 0).trans ?_
    show cc0_transform_1 (grid0.coords t) 0 * 8 + r.val = 8 * (t.val / 4) + r.val
    rw [(tix t).1]; omega
  · refine (Pipeline.Window.rect_emb_val win0_1 t _ 1).trans ?_
    show cc0_transform_1 (grid0.coords t) 1 * 1 + 0 = 0
    rw [(tix t).2]

/-- A chunk of the logits block, where it is of the array. -/
theorem chunk_apply (t : Fin cfg0.N) (k : Nat) (hk : k < 16) (y : S8x2048.Idx) (h : 2048 * (16 * (t.val % 4) + k) + (y 1).val < 100000) :
    chunkX (inX m c t) k y = rowOf (logits m c) (rowAt t (y 0)) (2048 * (16 * (t.val % 4) + k) + (y 1).val) := by
  unfold chunkX
  generalize hz : (Rect.unit (s := S8x32768) ![0, 2048 * (k % 16)] S8x2048.size (chunk_inb k)).toLoadRect.idx y = z
  have z0 : (z 0).val = 0 + 1 * (y 0).val := by rw [← hz]; rfl
  have z1 : (z 1).val = 2048 * (k % 16) + 1 * (y 1).val := by rw [← hz]; rfl
  have e0 : z 0 = y 0 := Fin.ext (by omega)
  have e1 : 32768 * (t.val % 4) + (z 1).val = 2048 * (16 * (t.val % 4) + k) + (y 1).val := by omega
  rw [inX_apply m c t z (by omega), e1, e0]

/-- Row `r` of row block `I`. -/
def row (I : Fin 16) (r : Fin 8) : Fin 128 := ⟨8 * I.val + r.val, by omega⟩

/-- The ranks of a row, by column. -/
def ranks (R : Fin 128) : Nat → EReal := rankOf R.val (temps m c (ix1 R)) (rowOf (logits m c) R)

/-- The exponentials of a row, by column. -/
def exps (R : Fin 128) : Nat → EReal := expOf (temps m c (ix1 R)) (rowOf (logits m c) R)

/-- A full block's point, on a lane. -/
theorem hold_mid (I : Fin 16) (t : Fin cfg0.N) (hI : t.val / 4 = I.val) (h : t.val % 4 ≠ 3) (y : S8x2048.Idx) (st : St Ideal)
    (hs : LaneHolds (ranks m c (row I (y 0))) (exps m c (row I (y 0))) st y (16 * (t.val % 4))) :
    LaneHolds (ranks m c (row I (y 0))) (exps m c (row I (y 0)))
      (stMid (grid0.coords t) (inT m c t) (chunkX (inX m c t)) st) y (16 * (t.val % 4) + 16) := by
  have hr : rowAt t (y 0) = row I (y 0) := Fin.ext (by show 8 * (t.val / 4) + _ = 8 * I.val + _; rw [hI])
  have hT := inT_apply m c t (y 0)
  have y1 : (y 1).val < 2048 := (y 1).isLt
  have hb : BlockHolds (grid0.coords t) (chunkX (inX m c t)) y (rowOf (logits m c) (row I (y 0))) := fun k hk => by
    rw [crd1 t]
    have hlt : 2048 * (16 * (t.val % 4) + k) + (y 1).val < 100000 := by omega
    exact ⟨hlt, (chunk_apply m c t k hk y hlt).trans (by rw [hr])⟩
  have hm := LaneHolds.mid (t := inT m c t) (st := st) hb
  rw [crd0 t, crd1 t, hT, hr, hI] at hm
  exact hm hs

/-- The last block's point, on a lane. -/
theorem hold_last (I : Fin 16) (t : Fin cfg0.N) (hI : t.val / 4 = I.val) (h : t.val % 4 = 3) (y : S8x2048.Idx) (st : St Ideal)
    (hs : LaneHolds (ranks m c (row I (y 0))) (exps m c (row I (y 0))) st y 48) :
    LaneHolds (ranks m c (row I (y 0))) (exps m c (row I (y 0)))
      (stLast (grid0.coords t) (inT m c t) (chunkX (inX m c t) 0) st) y 49 := by
  have hr : rowAt t (y 0) = row I (y 0) := Fin.ext (by show 8 * (t.val / 4) + _ = 8 * I.val + _; rw [hI])
  have hT := inT_apply m c t (y 0)
  have hx : (y 1).val < 1696 → chunkX (inX m c t) 0 y = rowOf (logits m c) (row I (y 0)) (2048 * 48 + (y 1).val) := fun hy => by
    have e := chunk_apply m c t 0 (by decide) y (by omega)
    rw [hr, h] at e
    exact e
  have hm := LaneHolds.last (t := inT m c t) (st := st) (by rw [crd1 t, h]) (tailMask_iff t h y) hx
  rw [crd0 t, hT, hr, hI] at hm
  exact hm hs

/-- A row block's points: every lane's accumulators after the last one. -/
theorem holds_row (I : Fin 16) (y : S8x2048.Idx) :
    LaneHolds (ranks m c (row I (y 0))) (exps m c (row I (y 0))) (stAt m c (4 * I.val + 4)) y 49 := by
  have hN : ∀ j, j < 4 → 4 * I.val + j < cfg0.N := fun j hj => by
    have e : cfg0.N = 64 := N_0
    omega
  have h0 := hold_mid m c I ⟨4 * I.val, hN 0 (by decide)⟩ (by dsimp only; omega) (by dsimp only; omega) y stInit
    (by rw [show 16 * (4 * I.val % 4) = 0 by omega]; exact LaneHolds.init _ _ y)
  rw [← stAt_first m c ⟨4 * I.val, hN 0 (by decide)⟩ (by dsimp only; omega)] at h0
  have h1 := hold_mid m c I ⟨4 * I.val + 1, hN 1 (by decide)⟩ (by dsimp only; omega) (by dsimp only; omega) y _
    (by rw [show 16 * ((4 * I.val + 1) % 4) = 16 * (4 * I.val % 4) + 16 by omega]; exact h0)
  rw [← stAt_mid m c ⟨4 * I.val + 1, hN 1 (by decide)⟩ (by dsimp only; omega) (by dsimp only; omega)] at h1
  have h2 := hold_mid m c I ⟨4 * I.val + 2, hN 2 (by decide)⟩ (by dsimp only; omega) (by dsimp only; omega) y _
    (by rw [show 16 * ((4 * I.val + 2) % 4) = 16 * ((4 * I.val + 1) % 4) + 16 by omega]; exact h1)
  rw [← stAt_mid m c ⟨4 * I.val + 2, hN 2 (by decide)⟩ (by dsimp only; omega) (by dsimp only; omega)] at h2
  have h3 := hold_last m c I ⟨4 * I.val + 3, hN 3 (by decide)⟩ (by dsimp only; omega) (by dsimp only; omega) y _
    (by rw [show 48 = 16 * ((4 * I.val + 2) % 4) + 16 by omega]; exact h2)
  rw [← stAt_last m c ⟨4 * I.val + 3, hN 3 (by decide)⟩ (by dsimp only; omega)] at h3
  exact h3

end Cert.Proof

end
-- ==== Proof.Rows.lean ====
/- Hand-written, untrusted: a row's lanes put together, its sum, its greatest rank and its token. -/
module

public import proofs.«01_k».proof.Proof.Blocks
public import Idealize.ShloMosaic.Lib.Pointwise.Reduce
public import Idealize.ShloMosaic.Lib.IdealHost

@[expose] public section

noncomputable section

namespace Cert.Proof

open Cert.KernelIdeal Cert.KernelIdeal.Gen
open Idealize.ShloMosaic hiding ix1 ix2 ix3
open Idealize.ShloMosaic.TcCoe Idealize.ShloMosaic.ValueIdx

/-! ## The reductions -/

/-- The fold of `max` from −∞ is a bound that is met. -/
theorem fold_max {n : Nat} (hn : 0 < n) (f : Fin n → EReal) :
    (∀ k, f k ≤ (Finset.univ : Finset (Fin n)).fold max ⊥ f) ∧ ∃ k, f k = (Finset.univ : Finset (Fin n)).fold max ⊥ f := by
  have e : (Finset.univ : Finset (Fin n)).fold max ⊥ f = Finset.univ.sup f := rfl
  rw [e]
  refine ⟨fun k => Finset.le_sup (Finset.mem_univ k), ?_⟩
  obtain ⟨k, -, hk⟩ := Finset.exists_mem_eq_sup Finset.univ ⟨⟨0, hn⟩, Finset.mem_univ _⟩ f
  exact ⟨k, hk.symm⟩

/-- The fold of the signed minimum is below every word it folds, and is the initial word or one of them. -/
theorem fold_min {ι : Type} [DecidableEq ι] (s : Finset ι) (z : BitVec 32) (f : ι → BitVec 32) :
    (∀ k ∈ s, (s.fold IntOp.minsi z f).toInt ≤ (f k).toInt) ∧ (s.fold IntOp.minsi z f = z ∨ ∃ k ∈ s, s.fold IntOp.minsi z f = f k) := by
  induction s using Finset.induction_on with
  | empty => exact ⟨fun k h => absurd h (Finset.notMem_empty k), .inl (Finset.fold_empty)⟩
  | insert a s ha ih =>
    rw [Finset.fold_insert ha]
    generalize s.fold IntOp.minsi z f = w at ih
    unfold IntOp.minsi
    obtain ⟨h1, h2⟩ := ih
    by_cases hlt : (f a).slt w = true
    · rw [if_pos hlt]
      have hlt' : (f a).toInt < w.toInt := of_decide_eq_true hlt
      refine ⟨fun k hk => ?_, .inr ⟨a, Finset.mem_insert_self _ _, rfl⟩⟩
      rcases Finset.mem_insert.1 hk with rfl | hk
      · exact le_rfl
      · exact hlt'.le.trans (h1 k hk)
    · rw [if_neg hlt]
      have hlt' : ¬ (f a).toInt < w.toInt := fun h => hlt (decide_eq_true h)
      refine ⟨fun k hk => ?_, ?_⟩
      · rcases Finset.mem_insert.1 hk with rfl | hk
        · exact not_lt.1 hlt'
        · exact h1 k hk
      · rcases h2 with h | ⟨k, hk, h⟩
        · exact .inl h
        · exact .inr ⟨k, Finset.mem_insert_of_mem hk, h⟩

/-- A column vector made of a vector. -/
theorem column {α : Type} (v : S8.Idx → α) (r : Fin 8) : shapeCast S8x1 v shapeCasts_S8_S8x1 (ix2 r 0) = v (ix1 r) :=
  shapeCast_apply _ _ _ _ rfl

/-- The reciprocal of a row's sum. -/
theorem invSum_apply (s : FVec Ideal S8x2048 .f32) (r : Fin 8) : invSum s (ix2 r 0) = Ideal.div 1 (∑ l : Fin 2048, s (ix2 r l)) := by
  have e : invSum s (ix2 r 0) = Ideal.div (Ideal.ofBits .f32 0x3F800000#32)
      (shapeCast S8x1 (multiReduction .add [1] S8 s 0x00000000#32 reduces_S8x2048_S8 (.inl rfl) rfl) shapeCasts_S8_S8x1 (ix2 r 0)) := rfl
  rw [e, column, Ideal.ofBits_one_f32]
  exact congrArg (Ideal.div 1) (Ideal.reduceAdd_r2_a1 reduces_S8x2048_S8 s (ix1 r))

/-- A row's greatest rank. -/
def topOf (b : FVec Ideal S8x2048 .f32) (r : Fin 8) : EReal := (Finset.univ : Finset (Fin 2048)).fold max ⊥ fun l => b (ix2 r l)

/-- The reduction of a block by maximum, at a row, is the greatest of the row. -/
theorem top_apply (b : FVec Ideal S8x2048 .f32) (r : Fin 8) :
    multiReduction .maximumf [1] S8 b 0xFF800000#32 reduces_S8x2048_S8 (.inl rfl) rfl (ix1 r) = topOf b r := by
  have e : (FloatOps.ofBits .f32 0xFF800000#32 : Ideal .f32) = (⊥ : EReal) := by
    show Ideal.ofBits .f32 0xFF800000#32 = ⊥
    simp [Ideal.ofBits, Ideal.ieee]
  refine (multiReduction_maximumf_eq_fold (F := Ideal) b _ _ _ _ _).trans ?_
  refine (Shape.Reduces.fold_fiber_r2_a1 reduces_S8x2048_S8 (ix1 r) _ _ _).trans ?_
  rw [e]
  rfl

/-- The column a lane offers for its row's token. -/
def offer (b : FVec Ideal S8x2048 .f32) (g : IVec S8x2048 32) (r : Fin 8) (l : Fin 2048) : BitVec 32 :=
  if b (ix2 r l) = topOf b r then g (ix2 r l) else 2147483647#32

/-- A row's token: the least column offered. -/
theorem tok_apply (b : FVec Ideal S8x2048 .f32) (g : IVec S8x2048 32) (r : Fin 8) :
    tokV b g (ix2 r 0) = (Finset.univ : Finset (Fin 2048)).fold IntOp.minsi 2147483647#32 (offer b g r) := by
  unfold tokV
  rw [column]
  refine (multiReductionI_eq_fold .minsi _ _ _ _ _).trans ?_
  refine (Shape.Reduces.fold_fiber_r2_a1 reduces_S8x2048_S8 (ix1 r) IntOp.minsi _ _).trans (Finset.fold_congr fun l _ => ?_)
  unfold offer
  have e := lane_temp (shapeCast S8x1 (multiReduction .maximumf [1] S8 b 0xFF800000#32 reduces_S8x2048_S8 (.inl rfl) rfl) shapeCasts_S8_S8x1) (ix2 r l)
  have e' := (e.trans (column _ r)).trans (top_apply b r)
  rw [← e']
  generalize broadcastTo S8x2048 _ broadcasts_S8x1_S8x2048 = M
  show (if Ideal.cmp .oeq (b (ix2 r l)) (M (ix2 r l)) = 1#1 then g (ix2 r l) else 2147483647#32) = _
  unfold Ideal.cmp
  by_cases h : b (ix2 r l) = M (ix2 r l)
  · rw [if_pos h, if_pos]; simp [h]
  · rw [if_neg h, if_neg]; simp [h]

/-- Naming the places otherwise. -/
theorem Peak.map {α β : Type} {z : α} {v : Nat → EReal} {col : Nat → α} {n : Nat} {b : EReal} {g : α} (h : Peak z v col n b g)
    (f : α → β) {col' : Nat → β} (hf : ∀ q, q < n → f (col q) = col' q) : Peak (f z) v col' n b (f g) := by
  refine ⟨h.1, ?_⟩
  rcases h.2 with ⟨h1, h2⟩ | ⟨q, h1, h2, h3, h4, h5⟩
  · exact .inl ⟨h1, congrArg f h2⟩
  · exact .inr ⟨q, h1, h2, h3, h4, (congrArg f h5).trans (hf q h1)⟩

/-- A small word as a signed number. -/
theorem toInt_small (w : BitVec 32) (h : w.toNat < 2147483648) : w.toInt = w.toNat := BitVec.toInt_eq_toNat_of_lt (by omega)

variable (rk ex : Nat → EReal)

/-- A row's token is the first column at which its rank is greatest. -/
theorem tok_first {st : St Ideal} (r : Fin 8) (hout : ∀ C, 100000 ≤ C → rk C = ⊥)
    (h : ∀ l : Fin 2048, LaneHolds rk ex st (ix2 r l) 49) : FirstMax rk 100000 (tokV st.b st.g (ix2 r 0)).toNat := by
  have hp : ∀ l : Fin 2048, Peak 0 (fun q => rk (2048 * q + l.val)) (fun q => 2048 * q + l.val) 49 (st.b (ix2 r l)) (st.g (ix2 r l)).toNat :=
    fun l => (h l).best.map BitVec.toNat fun q hq => by
      have := l.isLt
      exact (BitVec.toNat_ofNat _ _).trans (Nat.mod_eq_of_lt (by show 2048 * q + l.val < 4294967296; omega))
  have hg : ∀ l : Fin 2048, (st.g (ix2 r l)).toNat < 100352 := fun l => by
    have := l.isLt
    rcases (hp l).2 with ⟨-, e⟩ | ⟨q, hq, -, -, -, e⟩
    · omega
    · dsimp only at e; omega
  obtain ⟨hM, k, hk⟩ := fold_max (n := 2048) (by decide) fun l => st.b (ix2 r l)
  have ht := fold_min (Finset.univ : Finset (Fin 2048)) 2147483647#32 (offer st.b st.g r)
  rw [← tok_apply] at ht
  generalize tokV st.b st.g (ix2 r 0) = w at ht
  obtain ⟨h1, h2⟩ := ht
  have hoff : ∀ l, st.b (ix2 r l) = topOf st.b r → offer st.b st.g r l = st.g (ix2 r l) := fun l hl => if_pos hl
  have hle : ∀ l, st.b (ix2 r l) = topOf st.b r → w.toInt ≤ (st.g (ix2 r l)).toNat := fun l hl => by
    have := h1 l (Finset.mem_univ l)
    rwa [hoff l hl, toInt_small (st.g (ix2 r l)) (by have := hg l; omega)] at this
  have hbig : (2147483647#32 : BitVec 32).toInt = 2147483647 := by decide
  have hw : ∃ l, st.b (ix2 r l) = topOf st.b r ∧ w = st.g (ix2 r l) := by
    have hwk := hle k hk
    have := hg k
    rcases h2 with e | ⟨l, -, e⟩
    · rw [e, hbig] at hwk; omega
    · by_cases hl : st.b (ix2 r l) = topOf st.b r
      · exact ⟨l, hl, e.trans (hoff l hl)⟩
      · rw [e] at hwk
        unfold offer at hwk
        rw [if_neg hl, hbig] at hwk
        omega
  obtain ⟨l, hl, rfl⟩ := hw
  have hof : ∀ n (hn : n < 2048), Fin.ofNat 2048 n = ⟨n, hn⟩ := fun n hn => Fin.ext (Nat.mod_eq_of_lt hn)
  refine first_of_lanes (L := 2048) (Q := 49) (b := fun n => st.b (ix2 r (Fin.ofNat 2048 n))) (g := fun n => (st.g (ix2 r (Fin.ofNat 2048 n))).toNat)
    (M := topOf st.b r) (by decide) (by decide) hout (fun n hn => ?_) (fun n hn => hM _) ⟨k.val, k.isLt, ?_⟩ ⟨l.val, l.isLt, ?_, ?_⟩ (fun n hn hb => ?_)
  · have := hp ⟨n, hn⟩
    dsimp only at this ⊢
    rw [hof n hn]
    exact this
  · rw [hof k.val k.isLt]; exact hk
  · rw [hof l.val l.isLt]; exact hl
  · rw [hof l.val l.isLt]
  · have := hle _ hb
    rw [toInt_small (st.g (ix2 r l)) (by have := hg l; omega)] at this
    omega

/-- A row's sum and a probability of it. -/
theorem prob_apply {st : St Ideal} (r : Fin 8) (C : Fin 100000) (h : ∀ l : Fin 2048, LaneHolds rk ex st (ix2 r l) 49) :
    probV st.e (invSum st.s) (ix2 r C) = ex C.val * Ideal.div 1 (∑ l : Fin 2048, ∑ q ∈ Finset.range 49, ex (2048 * q + l.val)) := by
  have hC := C.isLt
  have h0 := (h ⟨C.val % 2048, Nat.mod_lt _ (by decide)⟩).kept (C.val / 2048) (by omega) (by omega)
  have h1 : ∀ l : Fin 2048, st.s (ix2 r l) = ∑ q ∈ Finset.range 49, ex (2048 * q + l.val) := fun l => (h l).sum
  have h2 := invSum_apply st.s r
  simp only [h1] at h2
  have h3 : 2048 * (C.val / 2048) + C.val % 2048 = C.val := Nat.div_add_mod _ _
  rw [← h2]
  refine congrArg (· * invSum st.s (ix2 r 0)) (h0.trans ?_)
  exact congrArg ex h3

end Cert.Proof

end
-- ==== Proof.Arrays.lean ====
/- Hand-written, untrusted: the kernel's result arrays after the run. -/
module

public import proofs.«01_k».proof.Proof.Rows

@[expose] public section

noncomputable section

namespace Cert.Proof

open Cert.KernelIdeal Cert.KernelIdeal.Gen
open Idealize.ShloMosaic hiding ix1 ix2 ix3 eq_ix2
open Idealize.ShloMosaic.TcCoe Idealize.ShloMosaic.ValueIdx
open Idealize.ShloMosaic.Pipeline (Dat)

variable (m : (ℓ : Loc nD τ sig) → Buf (Elt Ideal) ℓ) (c : Dev nD)

/-- The sum of a row's exponentials, lane by lane. -/
def laneSum (R : Fin 128) : EReal := ∑ l : Fin 2048, ∑ q ∈ Finset.range 49, exps m c R (2048 * q + l.val)

/-- A point's row block. -/
def blockOf (t : Fin cfg0.N) : Fin 16 := ⟨t.val / 4, by have : t.val < 64 := N_0 ▸ t.isLt; omega⟩

/-- The last point of a row's row block. -/
def lastOf (R : Fin 128) : Fin cfg0.N := ⟨4 * (R.val / 8) + 3, by rw [show cfg0.N = 64 from N_0]; omega⟩

/-- The scratch after the last point of a row block is the scratch after the block's four points. -/
theorem stAt_block (t : Fin cfg0.N) (h : t.val % 4 = 3) : stAt m c (t.val + 1) = stAt m c (4 * (blockOf t).val + 4) := by
  have e : t.val + 1 = 4 * (t.val / 4) + 4 := by omega
  rw [e]; rfl

/-- The index maps of the results' windows. -/
theorem oix2 : ∀ t : Fin cfg0.N, cc0_transform_2 (grid0.coords t) 0 = t.val / 4 ∧ cc0_transform_2 (grid0.coords t) 1 = 0 := by
  decide +kernel
/-- The same of the tokens' window. -/
theorem oix3 : ∀ t : Fin cfg0.N, cc0_transform_3 (grid0.coords t) 0 = t.val / 4 ∧ cc0_transform_3 (grid0.coords t) 1 = 0 := by
  decide +kernel

/-- Where an element of the probabilities' block sits. -/
theorem emb2 (t : Fin cfg0.N) (y : S8x100000.Idx) : (win0_2.rect t).emb y = (ix2 (rowAt t (y 0)) (y 1) : S128x100000.Idx) := by
  refine funext (Fin.forall_fin_two.2 ⟨Fin.ext ?_, Fin.ext ?_⟩)
  · refine (Pipeline.Window.rect_emb_val win0_2 t y 0).trans ?_
    show cc0_transform_2 (grid0.coords t) 0 * 8 + (y 0).val = 8 * (t.val / 4) + (y 0).val
    rw [(oix2 t).1]; omega
  · refine (Pipeline.Window.rect_emb_val win0_2 t y 1).trans ?_
    show cc0_transform_2 (grid0.coords t) 1 * 100000 + (y 1).val = (y 1).val
    rw [(oix2 t).2]; omega

/-- Where an element of the tokens' block sits. -/
theorem emb3 (t : Fin cfg0.N) (y : S8x1.Idx) : (win0_3.rect t).emb y = (ix2 (rowAt t (y 0)) (y 1) : S128x1.Idx) := by
  refine funext (Fin.forall_fin_two.2 ⟨Fin.ext ?_, Fin.ext ?_⟩)
  · refine (Pipeline.Window.rect_emb_val win0_3 t y 0).trans ?_
    show cc0_transform_3 (grid0.coords t) 0 * 8 + (y 0).val = 8 * (t.val / 4) + (y 0).val
    rw [(oix3 t).1]; omega
  · refine (Pipeline.Window.rect_emb_val win0_3 t y 1).trans ?_
    show cc0_transform_3 (grid0.coords t) 1 * 1 + (y 1).val = (y 1).val
    rw [(oix3 t).2]; omega

/-- A row is in its row block's last point's block. -/
theorem rowAt_last (R : Fin 128) : rowAt (lastOf R) ⟨R.val % 8, Nat.mod_lt _ (by decide)⟩ = R := by
  apply Fin.ext
  show 8 * ((4 * (R.val / 8) + 3) / 4) + R.val % 8 = R.val
  omega

/-- The probabilities' array. -/
theorem probs_arr (z : S128x100000.Idx) :
    (dats m 0 c).arrAt 2 cfg0.N z = exps m c (z 0) (z 1).val * Ideal.div 1 (laneSum m c (z 0)) := by
  refine (dats m 0 c).arrAt_forall_of_cover 2
    (fun (z : S128x100000.Idx) v => v = exps m c (z 0) (z 1).val * Ideal.div 1 (laneSum m c (z 0))) (fun t hf y => ?_) (fun z => ?_) z
  · have ht := (flush0_2 t).1 hf
    have h := prob_apply (ranks m c (rowAt t (y 0))) (exps m c (rowAt t (y 0))) (st := stAt m c (t.val + 1)) (y 0) (y 1) (fun l => by
      rw [stAt_block m c t ht]
      exact holds_row m c (blockOf t) (ix2 (y 0) l))
    have e : (ix2 (y 0) (y 1) : S8x100000.Idx) = y := (eq_ix2 (y : S8x100000.Idx)).symm
    rw [e] at h
    have he := emb2 t y
    show (probV (F := Ideal) _ _ y : EReal) = exps m c ((win0_2.rect t).emb y 0) ((win0_2.rect t).emb y 1).val * Ideal.div 1 (laneSum m c ((win0_2.rect t).emb y 0))
    rw [he]
    exact h
  · change S128x100000.Idx at z
    refine ⟨lastOf (z 0), (flush0_2 _).2 (by show (4 * ((z 0).val / 8) + 3) % 4 = 3; omega), ?_⟩
    have h := (win0_2.blk (lastOf (z 0))).view.emb_mem_set (ix2 ⟨(z 0).val % 8, Nat.mod_lt _ (by decide)⟩ (z 1) : S8x100000.Idx)
    have e : (win0_2.blk (lastOf (z 0))).view.emb (ix2 ⟨(z 0).val % 8, Nat.mod_lt _ (by decide)⟩ (z 1) : S8x100000.Idx) = z := by
      refine (emb2 (lastOf (z 0)) _).trans ?_
      have e' := rowAt_last (z 0)
      show (ix2 (rowAt (lastOf (z 0)) ⟨(z 0).val % 8, _⟩) (z 1) : S128x100000.Idx) = z
      rw [e']
      exact (eq_ix2 z).symm
    rw [e] at h
    exact h

/-- The tokens' array. -/
theorem toks_arr (z : S128x1.Idx) :
    FirstMax (ranks m c (z 0)) 100000 (BitVec.toNat (w := 32) ((dats m 0 c).arrAt 3 cfg0.N z)) := by
  refine (dats m 0 c).arrAt_forall_of_cover 3
    (fun (z : S128x1.Idx) v => FirstMax (ranks m c (z 0)) 100000 (BitVec.toNat (w := 32) v)) (fun t hf y => ?_) (fun z => ?_) z
  · have ht := (flush0_3 t).1 hf
    have h := tok_first (ranks m c (rowAt t (y 0))) (exps m c (rowAt t (y 0))) (st := stAt m c (t.val + 1)) (y 0)
      (fun C hC => if_neg (by omega)) (fun l => by
        rw [stAt_block m c t ht]
        exact holds_row m c (blockOf t) (ix2 (y 0) l))
    have e : (ix2 (y 0) 0 : S8x1.Idx) = y := (congrArg (ix2 (y 0)) (Subsingleton.elim (α := Fin 1) _ _)).trans (eq_ix2 (y : S8x1.Idx)).symm
    rw [e] at h
    have he := emb3 t y
    have ha : (dats m 0 c).after 3 t = tokV (stAt m c (t.val + 1)).b (stAt m c (t.val + 1)).g := by
      delta dats
      dsimp only
    rw [← ha] at h
    have h0 : ((cfg0.win 3).blk t).view.emb y 0 = rowAt t (y 0) := congrFun he 0
    rw [h0]
    exact h
  · change S128x1.Idx at z
    refine ⟨lastOf (z 0), (flush0_3 _).2 (by show (4 * ((z 0).val / 8) + 3) % 4 = 3; omega), ?_⟩
    have h := (win0_3.blk (lastOf (z 0))).view.emb_mem_set (ix2 ⟨(z 0).val % 8, Nat.mod_lt _ (by decide)⟩ (z 1) : S8x1.Idx)
    have e : (win0_3.blk (lastOf (z 0))).view.emb (ix2 ⟨(z 0).val % 8, Nat.mod_lt _ (by decide)⟩ (z 1) : S8x1.Idx) = z := by
      refine (emb3 (lastOf (z 0)) _).trans ?_
      have e' := rowAt_last (z 0)
      show (ix2 (rowAt (lastOf (z 0)) ⟨(z 0).val % 8, _⟩) (z 1) : S128x1.Idx) = z
      rw [e']
      exact (eq_ix2 z).symm
    rw [e] at h
    exact h

end Cert.Proof

end
-- ==== Proof.Softmax.lean ====
/- Hand-written, untrusted: softmax over the extended reals — subtracting the greatest number first changes nothing, where
   the numbers are finite —, and what the precondition says. -/
module

public import proofs.«01_k».proof.Proof.Arrays
public import proofs.«01_k».proof.Pre_finite_logits_warm_temperatures
public import Idealize.ShloMosaic.Lib.ReduceAll
public import Idealize.ShloMosaic.Lib.Pipeline.ValueKit.Acc

@[expose] public section

noncomputable section

namespace Cert.Proof

open Idealize.ShloMosaic hiding ix1 ix2 ix3 eq_ix2
open Idealize.ShloMosaic.TcCoe Idealize.ShloMosaic.ValueIdx

/-! ## The shift -/

/-- A sum of real numbers, as extended reals. -/
theorem coe_total {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Over the reals: the shift cancels. -/
theorem real_shift {n : Nat} (a : Fin n → ℝ) (M : ℝ) (C : Fin n) :
    Real.exp (a C - M) * (1 / ∑ k : Fin n, Real.exp (a k - M)) = Real.exp (a C) * (1 * (1 / ∑ k : Fin n, Real.exp (a k))) := by
  simp only [Real.exp_sub]
  rw [← Finset.sum_div, one_mul, one_div_div, div_mul_div_comm, mul_comm (Real.exp M), mul_div_mul_right _ _ (Real.exp_pos M).ne',
    mul_one_div]

/-- The softmax of finite numbers, with and without subtracting their greatest. -/
theorem softmax_shift {n : Nat} (hn : 0 < n) (x : Fin n → EReal) (hx : ∀ k, ∃ r : ℝ, x k = r) (C : Fin n) :
    Ideal.div (Ideal.exp (x C - max ⊥ ((Finset.univ : Finset (Fin n)).fold max ⊥ x)))
        (0 + ∑ k : Fin n, Ideal.exp (x k - max ⊥ ((Finset.univ : Finset (Fin n)).fold max ⊥ x)))
      = Ideal.exp (x C) * Ideal.div 1 (∑ k : Fin n, Ideal.exp (x k)) := by
  choose a ha using hx
  obtain ⟨k0, hk0⟩ := (fold_max hn x).2
  rw [← hk0, max_eq_right bot_le, ha k0]
  have h1 : ∀ k, Ideal.exp (x k - (a k0 : EReal)) = ((Real.exp (a k - a k0) : ℝ) : EReal) := fun k => by
    rw [ha k, ← EReal.coe_sub, Ideal.exp_coe]
  have h2 : ∀ k, Ideal.exp (x k) = ((Real.exp (a k) : ℝ) : EReal) := fun k => by rw [ha k, Ideal.exp_coe]
  have hne : (Finset.univ : Finset (Fin n)).Nonempty := ⟨⟨0, hn⟩, Finset.mem_univ _⟩
  have p1 : (∑ k : Fin n, Real.exp (a k - a k0)) ≠ 0 := (Finset.sum_pos (fun k _ => Real.exp_pos _) hne).ne'
  have p2 : (∑ k : Fin n, Real.exp (a k)) ≠ 0 := (Finset.sum_pos (fun k _ => Real.exp_pos _) hne).ne'
  simp only [h1, h2]
  rw [coe_total, coe_total, zero_add, Ideal.div_coe p1, Ideal.div_coe p2, ← EReal.coe_one, ← EReal.coe_mul, ← EReal.coe_mul,
    ← EReal.coe_mul]
  exact congrArg _ (real_shift a (a k0) C)

/-! ## Finite numbers -/

/-- A number whose magnitude is below +∞ is real. -/
theorem real_of_abs_lt {x : EReal} (h : max x (-x) < ⊤) : ∃ r : ℝ, x = r := by
  induction x using EReal.rec with
  | bot => simp at h
  | top => simp at h
  | coe r => exact ⟨r, rfl⟩

/-- A finite number divided by one that is not 0 is finite. -/
theorem real_div {x y : EReal} (hx : ∃ r : ℝ, x = r) (hy : y ≠ 0) : ∃ r : ℝ, Ideal.div x y = r := by
  obtain ⟨r, rfl⟩ := hx
  induction y using EReal.rec with
  | bot => exact ⟨0, by unfold Ideal.div; rw [if_neg hy, EReal.inv_bot, mul_zero, EReal.coe_zero]⟩
  | top => exact ⟨0, by unfold Ideal.div; rw [if_neg hy, EReal.inv_top, mul_zero, EReal.coe_zero]⟩
  | coe t =>
    have ht : t ≠ 0 := fun e => hy (by rw [e, EReal.coe_zero])
    exact ⟨r * (1 / t), by rw [Ideal.div_coe ht, ← EReal.coe_mul]⟩

/-! ## The precondition -/

/-- The predicate's side conditions. -/
theorem preFacts : Cert.Pre_finite_logits_warm_temperatures.Facts where
  bcast_S_S128x100000 := by decide
  reducesTo_S128x100000_S_d0_1 := by decide
  h_S_ := by decide
  bcast_S_S128 := by decide
  reducesTo_S128_S_d0 := by decide

/-- A conjunction of bits that is 1. -/
theorem both_one : ∀ a b : BitVec 1, IntOp.andi a b = 1#1 → a = 1#1 ∧ b = 1#1 := by decide

/-- Where the predicate holds every logit is finite and no temperature is 0. -/
theorem pre_says [Cert.Pre_finite_logits_warm_temperatures.Facts] (A : FVec Ideal Cert.Pre_finite_logits_warm_temperatures.S128x100000 .f32)
    (T : FVec Ideal Cert.Pre_finite_logits_warm_temperatures.S128 .f32)
    (h : Cert.Pre_finite_logits_warm_temperatures.fn (F := Ideal) A T = fun _ => 1#1) :
    (∀ z, ∃ r : ℝ, (A z : EReal) = r) ∧ ∀ R, (T R : EReal) ≠ 0 := by
  have hs : Subsingleton (Cert.Pre_finite_logits_warm_temperatures.S_).Idx := ⟨fun a b => funext fun i => i.elim0⟩
  obtain ⟨h1, h2⟩ := both_one _ _ (congrFun h fun i => i.elim0)
  refine ⟨fun z => ?_, fun R e => ?_⟩
  · have hz := Host.reduce_andi_all _ _ _ _ _ h1 z
    refine real_of_abs_lt ?_
    have hz' : Ideal.cmp .olt (max (A z : EReal) (-(A z : EReal))) (Ideal.ofBits .f32 0x7F800000#32) = 1#1 := hz
    have hi : Ideal.ofBits .f32 0x7F800000#32 = ⊤ := by simp [Ideal.ofBits, Ideal.ieee]
    rw [hi] at hz'
    by_contra hc
    have : Ideal.cmp .olt (max (A z : EReal) (-(A z : EReal))) ⊤ = 0#1 := by simp only [Ideal.cmp, hc]; rfl
    rw [this] at hz'
    exact absurd hz' (by decide)
  · have hz := Host.reduce_andi_all _ _ _ _ _ h2 R
    have hz' : Ideal.cmp .une (T R : EReal) (Ideal.ofBits .f32 0x00000000#32) = 1#1 := hz
    rw [Ideal.ofBits_zero_f32, e] at hz'
    simp [Ideal.cmp] at hz'

/-! ## The kernel's sum -/

open Cert.KernelIdeal Cert.KernelIdeal.Gen

/-- The lanes' sums are the row's sum. -/
theorem lanes_total (f : Nat → EReal) (h : ∀ C, 100000 ≤ C → f C = 0) :
    ∑ l : Fin 2048, ∑ q ∈ Finset.range 49, f (2048 * q + l.val) = ∑ C : Fin 100000, f C.val := by
  rw [Finset.sum_comm, Fin.sum_univ_eq_sum_range f 100000]
  have e : ∀ q ∈ Finset.range 49, ∑ l : Fin 2048, f (2048 * q + l.val) = ∑ l ∈ Finset.range 2048, f (q * 2048 + l) := fun q _ => by
    rw [Nat.mul_comm 2048 q]
    exact Fin.sum_univ_eq_sum_range (fun l => f (q * 2048 + l)) 2048
  rw [Finset.sum_congr rfl e, Finset.sum_range_range_mul_add]
  refine (Finset.sum_subset (fun C hC => Finset.mem_range.2 (lt_trans (Finset.mem_range.1 hC) (by norm_num))) fun C _ hC => h C ?_).symm
  exact not_lt.1 fun k => hC (Finset.mem_range.2 k)

end Cert.Proof

end
-- ==== Proof.Frames.lean ====
/- Hand-written, untrusted: the kernel program's frames. The run proved for the idealized print (`run_main`, at any float
   values) is carried to the program as printed, whose text is the same. -/
module

public import proofs.«01_k».proof.Proof.Point
public import proofs.«01_k».proof.Proof.Gen.Kernel.Frame

@[expose] public section

noncomputable section

namespace Cert.Proof

open Idealize.ShloMosaic Idealize.SL.Sem
open Idealize.ShloMosaic.TcCoe

variable {F : FTy → Type} [FloatOps F]

section Ideal

open Cert.KernelIdeal Cert.KernelIdeal.Gen

variable (m : (ℓ : Loc nD τ sig) → Buf (Elt F) ℓ) (ρ : Dev nD → PrngReg)

/-- The arguments after the run are the arguments before it. -/
theorem args_kept {r : PUnit × MemSt nD τ sig (Elt F)} (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats m 0 c).arrAt_in 0 rfl _).trans (V_main_arg0 m c)),
    ((h c).2 main_arg1 (Pipeline.mem_restRefs_of main_arg1 (by decide) (by decide))).trans (W_main_arg1 m (dats m) c)⟩

/-- Every execution ends with the arguments as they were and every semaphore counter zero. -/
theorem frame_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨args_kept m h.1, h.2⟩) (run_main m ρ)

end Ideal

/-! ## The program as printed is the idealized print's text -/

/-- The two prints' kernel bodies are one. -/
theorem defs₀_same : @Kernel.defs₀ F _ _ = @KernelIdeal.defs₀ F _ _ := by
  unfold Kernel.defs₀ KernelIdeal.defs₀
  refine congrArg Defs.onTc ?_
  funext l a
  match l, a with
  | ⟨0, _⟩, (t, s) => exact rfl
  | ⟨n + 1, h⟩, _ => exact absurd h (Nat.not_lt.2 (Nat.le_add_left _ _))

/-- So are their tables of definitions, -/
theorem defs_same : @Kernel.defs F _ _ = @KernelIdeal.defs F _ _ := by
  unfold Kernel.defs KernelIdeal.defs
  exact congrArg (Pipeline.defs _) defs₀_same

/-- and their main programs. -/
theorem main_same : Kernel.main (F := F) = KernelIdeal.main (F := F) := rfl

section Printed

open Cert.Kernel

variable (m : (ℓ : Loc nD τ sig) → Buf (Elt F) ℓ) (ρ : Dev nD → PrngReg)

/-- Every execution of the program as printed ends with the arguments as they were and every semaphore counter zero. -/
theorem frame_printed : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  rw [defs_same, main_same]
  exact frame_main m ρ

end Printed

end Cert.Proof

end
-- ==== Proof.Line.lean ====
/- Hand-written, untrusted: a straight line of host operations in which every operation writes a buffer numbered above
   everything it reads and everything written before it. After such a line every operation's equation holds of the FINAL
   contents (`Held`), so a value is read by its equation and not by replaying the line. -/
module

public import Idealize.ShloMosaic.Lib.StableHlo.Run
public import Idealize.ShloMosaic.Lib.Quiescent

@[expose] public section

noncomputable section

namespace Cert.Proof.Line

open Idealize.ShloMosaic Idealize.ShloMosaic.StableHlo Idealize.SL.Sem

variable {τ : Topo} {sig : RefSig} {Val : EltTy → Type}

/-- The number of a reference among the buffers of its space. -/
abbrev num (r : Ref sig .tc) : Nat := r.idx.val

/-- Operation `op` writes the buffer numbered `n` alone, and what it writes there is decided by buffers numbered below `n`. -/
structure OpAt (n : Nat) (op : HloOp τ sig Val) : Prop where
  bufs : op.bufs ⊆ tcRefs τ sig
  fresh : op.fresh = ∅
  writes : ∃ y : Ref sig .tc, num y = n ∧ op.writes = {Proc.devRef (τ := τ) .tc y}
  below : ∀ V W : Valuation τ sig Val, (∀ r : Ref sig .tc, num r < n → V (Proc.devRef .tc r) = W (Proc.devRef .tc r)) →
    ∀ b ∈ op.writes, op.result V b = op.result W b

/-- The line's operations write the buffers numbered `n`, `n + 1`, …, each from buffers numbered below its own. -/
def Ordered : Nat → List (HloOp τ sig Val) → Prop
  | _, [] => True
  | n, op :: ops => OpAt n op ∧ Ordered (n + 1) ops

/-- An ordered line followed by one that goes on numbering is ordered. -/
theorem Ordered.append {l₁ l₂ : List (HloOp τ sig Val)} : ∀ {n : Nat}, Ordered n l₁ → Ordered (n + l₁.length) l₂ →
    Ordered n (l₁ ++ l₂) := by
  induction l₁ with
  | nil => intro n _ h; exact h
  | cons op l ih =>
    intro n h₁ h₂
    refine ⟨h₁.1, ih h₁.2 ?_⟩
    rwa [List.length_cons, Nat.add_comm l.length 1, ← Nat.add_assoc] at h₂

/-- Every operation of an ordered line is at some number. -/
theorem Ordered.opAt {ops : List (HloOp τ sig Val)} : ∀ {n : Nat}, Ordered n ops → ∀ op ∈ ops, ∃ k, OpAt k op := by
  induction ops with
  | nil => intro n _ op h; exact absurd h List.not_mem_nil
  | cons o l ih =>
    intro n h op hm
    rcases List.mem_cons.1 hm with rfl | hm
    · exact ⟨n, h.1⟩
    · exact ih h.2 op hm

/-- A buffer numbered below the line's first keeps its contents. -/
theorem after_below {ops : List (HloOp τ sig Val)} : ∀ {n : Nat}, Ordered n ops → ∀ (V : Valuation τ sig Val) (r : Ref sig .tc),
    num r < n → after ops V (Proc.devRef .tc r) = V (Proc.devRef .tc r) := by
  induction ops with
  | nil => intro _ _ V r _; rfl
  | cons op l ih =>
    intro n h V r hr
    rw [after_cons, ih h.2 _ r (Nat.lt_succ_of_lt hr)]
    obtain ⟨y, hy, hw⟩ := h.1.writes
    refine HloOp.result_of_not_mem op V ?_
    rw [hw, Finset.mem_singleton]
    intro e
    have : r = y := Proc.devRef_injective _ e
    subst this
    omega

/-- Contents of which every operation's equation holds: each buffer it writes holds its result over these same contents. -/
def Held (W : Valuation τ sig Val) (ops : List (HloOp τ sig Val)) : Prop :=
  ∀ op ∈ ops, ∀ b ∈ op.writes, W b = op.result W b

/-- After an ordered line every operation's equation holds of the final contents. -/
theorem held_after {ops : List (HloOp τ sig Val)} : ∀ {n : Nat}, Ordered n ops → ∀ V : Valuation τ sig Val,
    Held (after ops V) ops := by
  induction ops with
  | nil => intro _ _ V op h; exact absurd h List.not_mem_nil
  | cons op l ih =>
    intro n h V o ho b hb
    rcases List.mem_cons.1 ho with rfl | ho
    · obtain ⟨y, hy, hw⟩ := h.1.writes
      have hb' : b = Proc.devRef (τ := τ) .tc y := Finset.mem_singleton.1 (hw ▸ hb)
      have e₁ : after (o :: l) V b = o.result V b := by
        subst hb'
        rw [after_cons, after_below h.2 _ y (by omega)]
      rw [e₁]
      refine h.1.below V _ (fun r hr => ?_) b hb
      exact (after_below (ops := o :: l) h V r hr).symm
    · exact ih h.2 (op.result V) o ho b hb

/-- The equations of a line are its first operation's and the rest's. -/
theorem Held.cons {W : Valuation τ sig Val} {op : HloOp τ sig Val} {l : List (HloOp τ sig Val)} (h : Held W (op :: l)) :
    (∀ b ∈ op.writes, W b = op.result W b) ∧ Held W l :=
  ⟨h op List.mem_cons_self, fun o ho => h o (List.mem_cons_of_mem _ ho)⟩

/-- The equations of two lines in order are the equations of each. -/
theorem Held.append {W : Valuation τ sig Val} {l₁ l₂ : List (HloOp τ sig Val)} (h : Held W (l₁ ++ l₂)) :
    Held W l₁ ∧ Held W l₂ :=
  ⟨fun o ho => h o (List.mem_append_left _ ho), fun o ho => h o (List.mem_append_right _ ho)⟩

/-! ## The builders -/

variable {T Ta Tb Tc Te : BufTy}

/-- What typed reference `t` holds in contents `W`. -/
def val (W : Valuation τ sig Val) (t : TRef sig T) : T.Contents Val := t.ofBuf (W (Proc.devRef .tc t.ref))

/-- A buffer that stores `v` has the value `v`. -/
theorem val_of {W : Valuation τ sig Val} {t : TRef sig T} {v : T.Contents Val}
    (h : W (Proc.devRef .tc t.ref) = t.toBuf v) : val W t = v := by
  unfold val; rw [h]; exact TRef.ofBuf_toBuf t v

/-- A constant is at the number of the buffer it writes. -/
theorem nullary_at {n : Nat} {y : TRef sig T} {v : T.Contents Val} (hy : num y.ref = n) :
    OpAt n (TRef.nullary (τ := τ) y v) where
  bufs := nullary_bufs_sub _ _ _
  fresh := rfl
  writes := ⟨y.ref, hy, rfl⟩
  below V W h b hb := by
    obtain rfl := Finset.mem_singleton.1 hb
    rw [nullary_result, nullary_result]

/-- A one-operand operation is at the number of the buffer it writes, its operand below. -/
theorem unary_at {n : Nat} {a : TRef sig Ta} {y : TRef sig T} {f : Ta.Contents Val → T.Contents Val}
    (hy : num y.ref = n) (ha : num a.ref < n) : OpAt n (TRef.unary (τ := τ) a y f) where
  bufs := unary_bufs_sub _ _ _ _ _
  fresh := rfl
  writes := ⟨y.ref, hy, rfl⟩
  below V W h b hb := by
    obtain rfl := Finset.mem_singleton.1 hb
    rw [unary_result, unary_result, h _ ha]

/-- The same of two operands. -/
theorem binary_at {n : Nat} {a : TRef sig Ta} {b : TRef sig Tb} {y : TRef sig T}
    {f : Ta.Contents Val → Tb.Contents Val → T.Contents Val}
    (hy : num y.ref = n) (ha : num a.ref < n) (hb : num b.ref < n) : OpAt n (TRef.binary (τ := τ) a b y f) where
  bufs := binary_bufs_sub _ _ _ _ _ _ _
  fresh := rfl
  writes := ⟨y.ref, hy, rfl⟩
  below V W h c hc := by
    obtain rfl := Finset.mem_singleton.1 hc
    rw [binary_result, binary_result, h _ ha, h _ hb]

/-- The same of three operands. -/
theorem ternary_at {n : Nat} {c : TRef sig Tc} {a : TRef sig Ta} {b : TRef sig Tb} {y : TRef sig T}
    {f : Tc.Contents Val → Ta.Contents Val → Tb.Contents Val → T.Contents Val}
    (hy : num y.ref = n) (hc : num c.ref < n) (ha : num a.ref < n) (hb : num b.ref < n) :
    OpAt n (TRef.ternary (τ := τ) c a b y f) where
  bufs := ternary_bufs_sub _ _ _ _ _ _ _ _ _
  fresh := rfl
  writes := ⟨y.ref, hy, rfl⟩
  below V W h d hd := by
    obtain rfl := Finset.mem_singleton.1 hd
    rw [ternary_result, ternary_result, h _ ha, h _ hb, h _ hc]

/-- The same of four operands. -/
theorem quaternary_at {n : Nat} {a : TRef sig Ta} {b : TRef sig Tb} {c : TRef sig Tc} {e : TRef sig Te} {y : TRef sig T}
    {f : Ta.Contents Val → Tb.Contents Val → Tc.Contents Val → Te.Contents Val → T.Contents Val}
    (hy : num y.ref = n) (ha : num a.ref < n) (hb : num b.ref < n) (hc : num c.ref < n) (he : num e.ref < n) :
    OpAt n (TRef.quaternary (τ := τ) a b c e y f) where
  bufs := quaternary_bufs_sub _ _ _ _ _ _ _ _ _ _ _
  fresh := rfl
  writes := ⟨y.ref, hy, rfl⟩
  below V W h d hd := by
    obtain rfl := Finset.mem_singleton.1 hd
    rw [quaternary_result, quaternary_result, h _ ha, h _ hb, h _ hc, h _ he]

/-- The same of a reshape. -/
theorem reshape_at {n : Nat} {a : TRef sig Ta} {y : TRef sig T} {he : Ta.elt = T.elt} {hn : Ta.shape.ShapeCasts T.shape}
    (hy : num y.ref = n) (ha : num a.ref < n) : OpAt n (TRef.reshape (τ := τ) (Val := Val) a y he hn) where
  bufs := reshape_bufs_sub _ _ _ _ _ _
  fresh := rfl
  writes := ⟨y.ref, hy, rfl⟩
  below V W h d hd := by
    obtain rfl := Finset.mem_singleton.1 hd
    rw [reshape_result, reshape_result, h _ ha]

section Bare

variable {x a b y : Ref sig .tc} {n : Nat}

/-- The same of the builders at plain references, as @main has them. -/
theorem plain_nullary_at {v : y.ty.Contents Val} {h} (hy : num y = n) : OpAt n (StableHlo.nullary (τ := τ) y v h) where
  bufs := nullary_bufs_sub _ _ _
  fresh := rfl
  writes := ⟨y, hy, rfl⟩
  below V W h b hb := by
    obtain rfl := Finset.mem_singleton.1 hb
    rw [nullary_result, nullary_result]

/-- The same of a one-operand operation at plain references. -/
theorem plain_unary_at {f : x.ty.Contents Val → y.ty.Contents Val} {h h'} (hy : num y = n) (hx : num x < n) :
    OpAt n (StableHlo.unary (τ := τ) x y f h h') where
  bufs := unary_bufs_sub _ _ _ _ _
  fresh := rfl
  writes := ⟨y, hy, rfl⟩
  below V W h b hb := by
    obtain rfl := Finset.mem_singleton.1 hb
    rw [unary_result, unary_result, h _ hx]

/-- The same of a two-operand operation at plain references. -/
theorem plain_binary_at {f : a.ty.Contents Val → b.ty.Contents Val → y.ty.Contents Val} {h h' h''} (hy : num y = n)
    (ha : num a < n) (hb : num b < n) : OpAt n (StableHlo.binary (τ := τ) a b y f h h' h'') where
  bufs := binary_bufs_sub _ _ _ _ _ _ _
  fresh := rfl
  writes := ⟨y, hy, rfl⟩
  below V W h c hc := by
    obtain rfl := Finset.mem_singleton.1 hc
    rw [binary_result, binary_result, h _ ha, h _ hb]

variable {W : Valuation τ sig Val}

/-- The equation of a constant at a plain reference. -/
theorem plain_nullary_eq {v : y.ty.Contents Val} {h}
    (e : ∀ b ∈ (StableHlo.nullary (τ := τ) y v h).writes, W b = (StableHlo.nullary (τ := τ) y v h).result W b) :
    W (Proc.devRef .tc y) = v := (e _ (Finset.mem_singleton_self _)).trans (nullary_result _ _ _ _)

/-- The equation of a one-operand operation at plain references. -/
theorem plain_unary_eq {f : x.ty.Contents Val → y.ty.Contents Val} {h h'}
    (e : ∀ b ∈ (StableHlo.unary (τ := τ) x y f h h').writes, W b = (StableHlo.unary (τ := τ) x y f h h').result W b) :
    W (Proc.devRef .tc y) = f (W (Proc.devRef .tc x)) := (e _ (Finset.mem_singleton_self _)).trans (unary_result _ _ _ _ _ _)

/-- The equation of a two-operand operation at plain references. -/
theorem plain_binary_eq {f : a.ty.Contents Val → b.ty.Contents Val → y.ty.Contents Val} {h h' h''}
    (e : ∀ d ∈ (StableHlo.binary (τ := τ) a b y f h h' h'').writes, W d = (StableHlo.binary (τ := τ) a b y f h h' h'').result W d) :
    W (Proc.devRef .tc y) = f (W (Proc.devRef .tc a)) (W (Proc.devRef .tc b)) :=
  (e _ (Finset.mem_singleton_self _)).trans (binary_result _ _ _ _ _ _ _ _)

end Bare

section Equations

variable {W : Valuation τ sig Val}

/-- The equation of a constant. -/
theorem nullary_eq {y : TRef sig T} {v : T.Contents Val}
    (h : ∀ b ∈ (TRef.nullary (τ := τ) y v).writes, W b = (TRef.nullary (τ := τ) y v).result W b) : val W y = v :=
  val_of ((h _ (Finset.mem_singleton_self _)).trans (nullary_result _ _ _ _))

/-- The equation of a one-operand operation. -/
theorem unary_eq {a : TRef sig Ta} {y : TRef sig T} {f : Ta.Contents Val → T.Contents Val}
    (h : ∀ b ∈ (TRef.unary (τ := τ) a y f).writes, W b = (TRef.unary (τ := τ) a y f).result W b) :
    val W y = f (val W a) :=
  val_of ((h _ (Finset.mem_singleton_self _)).trans (unary_result _ _ _ _ _ _))

/-- The equation of a two-operand operation. -/
theorem binary_eq {a : TRef sig Ta} {b : TRef sig Tb} {y : TRef sig T}
    {f : Ta.Contents Val → Tb.Contents Val → T.Contents Val}
    (h : ∀ d ∈ (TRef.binary (τ := τ) a b y f).writes, W d = (TRef.binary (τ := τ) a b y f).result W d) :
    val W y = f (val W a) (val W b) :=
  val_of ((h _ (Finset.mem_singleton_self _)).trans (binary_result _ _ _ _ _ _ _ _))

/-- The equation of a three-operand operation. -/
theorem ternary_eq {c : TRef sig Tc} {a : TRef sig Ta} {b : TRef sig Tb} {y : TRef sig T}
    {f : Tc.Contents Val → Ta.Contents Val → Tb.Contents Val → T.Contents Val}
    (h : ∀ d ∈ (TRef.ternary (τ := τ) c a b y f).writes, W d = (TRef.ternary (τ := τ) c a b y f).result W d) :
    val W y = f (val W c) (val W a) (val W b) :=
  val_of ((h _ (Finset.mem_singleton_self _)).trans (ternary_result _ _ _ _ _ _ _ _ _ _))

/-- The equation of a four-operand operation. -/
theorem quaternary_eq {a : TRef sig Ta} {b : TRef sig Tb} {c : TRef sig Tc} {e : TRef sig Te} {y : TRef sig T}
    {f : Ta.Contents Val → Tb.Contents Val → Tc.Contents Val → Te.Contents Val → T.Contents Val}
    (h : ∀ d ∈ (TRef.quaternary (τ := τ) a b c e y f).writes, W d = (TRef.quaternary (τ := τ) a b c e y f).result W d) :
    val W y = f (val W a) (val W b) (val W c) (val W e) :=
  val_of ((h _ (Finset.mem_singleton_self _)).trans (quaternary_result _ _ _ _ _ _ _ _ _ _ _ _))

/-- A reshape between two buffers is the reshape between the types those buffers have. -/
theorem reshape_cast {e : EltTy} {s t : Shape} {A B : BufTy} (hA : A = ⟨s, e⟩) (hB : B = ⟨t, e⟩) (he : A.elt = B.elt)
    (hn : A.shape.ShapeCasts B.shape) (hn' : s.ShapeCasts t) (v : A.Contents Val) :
    (fun i => he ▸ shapeCast B.shape v hn i : B.Contents Val)
      = cast (congrArg (fun U : BufTy => U.Contents Val) hB.symm)
          (shapeCast t (cast (congrArg (fun U : BufTy => U.Contents Val) hA) v : (⟨s, e⟩ : BufTy).Contents Val) hn') := by
  subst hA hB; rfl

/-- The equation of a reshape. -/
theorem reshape_eq {e : EltTy} {s t : Shape} {a : TRef sig ⟨s, e⟩} {y : TRef sig ⟨t, e⟩} {hn : s.ShapeCasts t}
    (h : ∀ d ∈ (TRef.reshape (τ := τ) (Val := Val) a y rfl hn).writes,
      W d = (TRef.reshape (τ := τ) (Val := Val) a y rfl hn).result W d) :
    val W y = shapeCast t (val W a) hn := by
  obtain ⟨r, hr, h₁, h₂⟩ := y
  obtain ⟨q, hq, h₃, h₄⟩ := a
  exact val_of ((h _ (Finset.mem_singleton_self _)).trans ((reshape_result _ _ _ _ _ _ _).trans
    (reshape_cast hq hr _ _ hn _)))

end Equations

/-! ## The run -/

variable {nD : Nat} {Λ : Labels}

/-- A program that is an ordered line of host operations, over a signature that scopes nothing and has no semaphores, ends
    with every buffer as the line leaves it and every counter at zero. -/
theorem run_ordered (hR : (Finset.univ.filter fun b : Ref sig .tc => b.isScoped) = ∅) (hN : sig.nSem + sig.nDmaSem = 0)
    (hC : (Finset.univ.filter fun sm : SemLoc sig => sm.isScoped .tc) = ∅)
    (defs : Defs nD τ sig Val Λ) (main : Dev nD → Prog (TpuEff nD τ sig Val Λ .tc) PUnit) {ops : List (HloOp τ sig Val)}
    {n : Nat} (hmain : ∀ d, main d = seq ops) (ho : Ordered n ops)
    (m : (ℓ : Loc nD τ sig) → Buf Val ℓ) (ρ : Dev nD → PrngReg) :
    θ_run defs (onTc (τ := τ) main) ⟨m, fun _ => 0, ρ⟩ fun r =>
      (∀ (d : Dev nD) (b : Ref sig .tc), r.2.mem ((d.tc : Thread nD τ).loc b) = after ops (launchContents m d) (Proc.devRef .tc b))
        ∧ r.2.sem = fun _ => 0 :=
  (θ_run defs _ _).mono (fun r h => ⟨h, sem_eq_zero_of_no_sems hN r.2⟩)
    (run_seq hR hC defs main (fun _ => ops) hmain
      (fun _ => List.forall_iff_forall_mem.2 fun op hm => (ho.opAt op hm).elim fun _ h => h.bufs) m ρ
      (fun _ op hm => (ho.opAt op hm).elim fun _ h => h.fresh))

end Cert.Proof.Line

end
-- ==== Proof.RefOps.lean ====
/- Hand-written, untrusted: the reference program as one line of host operations. The Threefry function's twenty rounds
   and five key injections are two lists, `roundOps` and `injectOps`, at each round's own buffers. -/
module

public import proofs.«01_k».proof.Proof.Gen.ReferenceIdeal
public import proofs.«01_k».proof.Proof.Line

@[expose] public section

noncomputable section

namespace Cert.Proof.Ref

open Cert.ReferenceIdeal Cert.ReferenceIdeal.Gen
open Idealize.ShloMosaic Idealize.ShloMosaic.TcCoe Idealize.ShloMosaic.StableHlo Idealize.ShloMosaic.StableHlo.TRef Idealize.SL.Sem

variable {F : FTy → Type} [FloatOps F]

/-- A line of the reference's host operations. -/
abbrev Ops (F : FTy → Type) [FloatOps F] : Type := List (HloOp τ sig (Elt F))

/-! ## @main's own values -/

abbrev t_arg0 : TRef sig ⟨S128x100000, .f32⟩ := .of main_arg0
abbrev t_v6 : TRef sig ⟨S128x100000, .f32⟩ := .of main_v6
abbrev t_v7 : TRef sig ⟨S128x100000, .f32⟩ := .of main_v7
abbrev t_v12 : TRef sig ⟨S128x100000, .f32⟩ := .of main_v12
abbrev t_v13 : TRef sig ⟨S128x100000, .f32⟩ := .of main_v13
abbrev t_v14 : TRef sig ⟨S128x100000, .f32⟩ := .of main_v14
abbrev t_v17 : TRef sig ⟨S128x100000, .f32⟩ := .of main_v17
abbrev t_v18 : TRef sig ⟨S128x100000, .f32⟩ := .of main_v18
abbrev t_v26 : TRef sig ⟨S128x100000, .f32⟩ := .of main_v26
abbrev t_v27 : TRef sig ⟨S128x100000, .f32⟩ := .of main_v27
abbrev t_v28 : TRef sig ⟨S128x100000, .f32⟩ := .of main_v28
abbrev t_v29 : TRef sig ⟨S128x100000, .f32⟩ := .of main_v29
abbrev t_v30 : TRef sig ⟨S128x100000, .f32⟩ := .of main_v30
abbrev t_v31 : TRef sig ⟨S128x100000, .f32⟩ := .of main_v31
abbrev t_v32 : TRef sig ⟨S128x100000, .f32⟩ := .of main_v32
abbrev t_v33 : TRef sig ⟨S128x100000, .f32⟩ := .of main_v33
abbrev t_arg1 : TRef sig ⟨S128, .f32⟩ := .of main_arg1
abbrev t_v1 : TRef sig ⟨S128, .f32⟩ := .of main_v1
abbrev t_v3 : TRef sig ⟨S128, .f32⟩ := .of main_v3
abbrev t_v4 : TRef sig ⟨S128, .f32⟩ := .of main_v4
abbrev t_v8 : TRef sig ⟨S128, .f32⟩ := .of main_v8
abbrev t_v9 : TRef sig ⟨S128, .f32⟩ := .of main_v9
abbrev t_v10 : TRef sig ⟨S128, .f32⟩ := .of main_v10
abbrev t_v15 : TRef sig ⟨S128, .f32⟩ := .of main_v15
abbrev t_v35 : TRef sig ⟨S128, .f32⟩ := .of main_v35
abbrev t_v5 : TRef sig ⟨S128x1, .f32⟩ := .of main_v5
abbrev t_v11 : TRef sig ⟨S128x1, .f32⟩ := .of main_v11
abbrev t_v16 : TRef sig ⟨S128x1, .f32⟩ := .of main_v16
abbrev t_cst : TRef sig ⟨S_, .f32⟩ := .of main_cst
abbrev t_cst_0 : TRef sig ⟨S_, .f32⟩ := .of main_cst_0
abbrev t_cst_1 : TRef sig ⟨S_, .f32⟩ := .of main_cst_1
abbrev t_cst_2 : TRef sig ⟨S_, .f32⟩ := .of main_cst_2
abbrev t_cst_3 : TRef sig ⟨S_, .f32⟩ := .of main_cst_3
abbrev t_cst_6 : TRef sig ⟨S_, .f32⟩ := .of main_cst_6
abbrev t_cst_7 : TRef sig ⟨S_, .f32⟩ := .of main_cst_7
abbrev t_cst_8 : TRef sig ⟨S_, .f32⟩ := .of main_cst_8
abbrev t_cst_9 : TRef sig ⟨S_, .f32⟩ := .of main_cst_9
abbrev t_c : TRef sig ⟨S_, .i32⟩ := .of main_c
abbrev t_c_4 : TRef sig ⟨S_, .i32⟩ := .of main_c_4
abbrev t_c_5 : TRef sig ⟨S_, .i32⟩ := .of main_c_5
abbrev t_v19 : TRef sig ⟨S_, .i32⟩ := .of main_v19
abbrev t_v20 : TRef sig ⟨S_, .i32⟩ := .of main_v20
abbrev t_v22 : TRef sig ⟨S_, .i32⟩ := .of main_v22
abbrev t_v23 : TRef sig ⟨S_, .i32⟩ := .of main_v23
abbrev t_v21 : TRef sig ⟨S1, .i32⟩ := .of main_v21
abbrev t_v24 : TRef sig ⟨S1, .i32⟩ := .of main_v24
abbrev t_v25 : TRef sig ⟨S2, .i32⟩ := .of main_v25
abbrev t_v0 : TRef sig ⟨S128, .i32⟩ := .of main_v0
abbrev t_v34 : TRef sig ⟨S128, .i32⟩ := .of main_v34
abbrev t_v37 : TRef sig ⟨S128, .i32⟩ := .of main_v37
abbrev t_v2 : TRef sig ⟨S128, .i1⟩ := .of main_v2
abbrev t_v36 : TRef sig ⟨S128, .i1⟩ := .of main_v36

/-! ## The Threefry function -/

abbrev W0 : BufTy := ⟨S_, .i32⟩
abbrev W2 : BufTy := ⟨S128x100000, .i32⟩

/-- A word spread over the array. -/
abbrev spread : W0.Contents (Elt F) → W2.Contents (Elt F) := broadcastInDim S128x100000 ![] bcast_S_S128x100000

/-- The third key word and the counters with the first two added. -/
def startOps (a0 a1 : TRef sig W0) (a2 a3 : TRef sig W2) (x c k : TRef sig W0) (s₀ y₀ s₁ y₁ : TRef sig W2) : Ops F :=
  [binary a0 a1 x xori, nullary c (constantI S_ 32 466688986#32), binary x c k xori,
    unary a0 s₀ spread, binary a2 s₀ y₀ addi, unary a1 s₁ spread, binary a3 s₁ y₁ addi]

/-- One round: the sum, and the second word rotated left by `r` (with `r' = 32 - r`) and xored with the sum. -/
def roundOps (x y x' : TRef sig W2) (c : TRef sig W0) (s l : TRef sig W2) (c' : TRef sig W0) (s' q o y' : TRef sig W2)
    (r r' : BitVec 32) : Ops F :=
  [binary x y x' addi, nullary c (constantI S_ 32 r), unary c s spread, binary y s l Host.shli,
    nullary c' (constantI S_ 32 r'), unary c' s' spread, binary y s' q Host.shrui, binary l q o ori, binary x' o y' xori]

/-- One key injection: key word `k` on the first word, `k'` and the group's number `n` on the second. -/
def injectOps (x y : TRef sig W2) (k k' : TRef sig W0) (s x' s' z : TRef sig W2) (c : TRef sig W0) (s'' y' : TRef sig W2)
    (n : BitVec 32) : Ops F :=
  [unary k s spread, binary x s x' addi, unary k' s' spread, binary y s' z addi, nullary c (constantI S_ 32 n),
    unary c s'' spread, binary z s'' y' addi]

/-- The Threefry function's line. -/
def threefryOps (a0 a1 : TRef sig ⟨S_, .i32⟩) (a2 a3 : TRef sig ⟨S128x100000, .i32⟩) (φ : fn_threefry2x32.Bufs) : Ops F :=
  startOps a0 a1 a2 a3 φ.v0 φ.c φ.v1 φ.v2 φ.v3 φ.v4 φ.v5 ++ (
    roundOps φ.v3 φ.v5 φ.v6 φ.c_0 φ.v7 φ.v8 φ.c_1 φ.v9 φ.v10 φ.v11 φ.v12 13#32 19#32 ++ (
    roundOps φ.v6 φ.v12 φ.v13 φ.c_2 φ.v14 φ.v15 φ.c_3 φ.v16 φ.v17 φ.v18 φ.v19 15#32 17#32 ++ (
    roundOps φ.v13 φ.v19 φ.v20 φ.c_4 φ.v21 φ.v22 φ.c_5 φ.v23 φ.v24 φ.v25 φ.v26 26#32 6#32 ++ (
    roundOps φ.v20 φ.v26 φ.v27 φ.c_6 φ.v28 φ.v29 φ.c_7 φ.v30 φ.v31 φ.v32 φ.v33 6#32 26#32 ++ (
    injectOps φ.v27 φ.v33 a1 φ.v1 φ.v34 φ.v35 φ.v36 φ.v37 φ.c_8 φ.v38 φ.v39 1#32 ++ (
    roundOps φ.v35 φ.v39 φ.v40 φ.c_9 φ.v41 φ.v42 φ.c_10 φ.v43 φ.v44 φ.v45 φ.v46 17#32 15#32 ++ (
    roundOps φ.v40 φ.v46 φ.v47 φ.c_11 φ.v48 φ.v49 φ.c_12 φ.v50 φ.v51 φ.v52 φ.v53 29#32 3#32 ++ (
    roundOps φ.v47 φ.v53 φ.v54 φ.c_13 φ.v55 φ.v56 φ.c_14 φ.v57 φ.v58 φ.v59 φ.v60 16#32 16#32 ++ (
    roundOps φ.v54 φ.v60 φ.v61 φ.c_15 φ.v62 φ.v63 φ.c_16 φ.v64 φ.v65 φ.v66 φ.v67 24#32 8#32 ++ (
    injectOps φ.v61 φ.v67 φ.v1 a0 φ.v68 φ.v69 φ.v70 φ.v71 φ.c_17 φ.v72 φ.v73 2#32 ++ (
    roundOps φ.v69 φ.v73 φ.v74 φ.c_18 φ.v75 φ.v76 φ.c_19 φ.v77 φ.v78 φ.v79 φ.v80 13#32 19#32 ++ (
    roundOps φ.v74 φ.v80 φ.v81 φ.c_20 φ.v82 φ.v83 φ.c_21 φ.v84 φ.v85 φ.v86 φ.v87 15#32 17#32 ++ (
    roundOps φ.v81 φ.v87 φ.v88 φ.c_22 φ.v89 φ.v90 φ.c_23 φ.v91 φ.v92 φ.v93 φ.v94 26#32 6#32 ++ (
    roundOps φ.v88 φ.v94 φ.v95 φ.c_24 φ.v96 φ.v97 φ.c_25 φ.v98 φ.v99 φ.v100 φ.v101 6#32 26#32 ++ (
    injectOps φ.v95 φ.v101 a0 a1 φ.v102 φ.v103 φ.v104 φ.v105 φ.c_26 φ.v106 φ.v107 3#32 ++ (
    roundOps φ.v103 φ.v107 φ.v108 φ.c_27 φ.v109 φ.v110 φ.c_28 φ.v111 φ.v112 φ.v113 φ.v114 17#32 15#32 ++ (
    roundOps φ.v108 φ.v114 φ.v115 φ.c_29 φ.v116 φ.v117 φ.c_30 φ.v118 φ.v119 φ.v120 φ.v121 29#32 3#32 ++ (
    roundOps φ.v115 φ.v121 φ.v122 φ.c_31 φ.v123 φ.v124 φ.c_32 φ.v125 φ.v126 φ.v127 φ.v128 16#32 16#32 ++ (
    roundOps φ.v122 φ.v128 φ.v129 φ.c_33 φ.v130 φ.v131 φ.c_34 φ.v132 φ.v133 φ.v134 φ.v135 24#32 8#32 ++ (
    injectOps φ.v129 φ.v135 a1 φ.v1 φ.v136 φ.v137 φ.v138 φ.v139 φ.c_35 φ.v140 φ.v141 4#32 ++ (
    roundOps φ.v137 φ.v141 φ.v142 φ.c_36 φ.v143 φ.v144 φ.c_37 φ.v145 φ.v146 φ.v147 φ.v148 13#32 19#32 ++ (
    roundOps φ.v142 φ.v148 φ.v149 φ.c_38 φ.v150 φ.v151 φ.c_39 φ.v152 φ.v153 φ.v154 φ.v155 15#32 17#32 ++ (
    roundOps φ.v149 φ.v155 φ.v156 φ.c_40 φ.v157 φ.v158 φ.c_41 φ.v159 φ.v160 φ.v161 φ.v162 26#32 6#32 ++ (
    roundOps φ.v156 φ.v162 φ.v163 φ.c_42 φ.v164 φ.v165 φ.c_43 φ.v166 φ.v167 φ.v168 φ.v169 6#32 26#32 ++ (
    injectOps φ.v163 φ.v169 φ.v1 a0 φ.v170 φ.v171 φ.v172 φ.v173 φ.c_44 φ.v174 φ.v175 5#32)))))))))))))))))))))))))

/-- The Threefry function is its line. -/
theorem threefry_seq (a0 a1 : TRef sig ⟨S_, .i32⟩) (a2 a3 : TRef sig ⟨S128x100000, .i32⟩) (φ : fn_threefry2x32.Bufs) :
    fn_threefry2x32.body (F := F) a0 a1 a2 a3 φ = seq (threefryOps a0 a1 a2 a3 φ) := rfl

/-! ## The other functions -/

/-- The greedy column: what the first argmax runs. -/
def argmaxOps (a0 : TRef sig ⟨S128x100000, .f32⟩) (φ : fn_argmax.Bufs) : Ops F := [
    nullary φ.v0 (iotaInDim S128x100000 32 1),
    nullary φ.cst (constant S_ .f32 0xFF800000#32),
    nullary φ.c (constantI S_ 32 0#32),
    quaternary a0 φ.v0 φ.cst φ.c φ.v1_0 (fun x y u v j => (Host.argReduce reducer_argmax_f32_i32 x y u v reducesTo_S128x100000_S128_d1 h_S_ j).1),
    quaternary a0 φ.v0 φ.cst φ.c φ.v1_1 (fun x y u v j => (Host.argReduce reducer_argmax_f32_i32 x y u v reducesTo_S128x100000_S128_d1 h_S_ j).2)]

/-- The sampled column: what the second argmax runs. -/
def argmax0Ops (a0 : TRef sig ⟨S128x100000, .f32⟩) (φ : fn_argmax_0.Bufs) : Ops F := [
    nullary φ.v0 (iotaInDim S128x100000 32 1),
    nullary φ.cst (constant S_ .f32 0xFF800000#32),
    nullary φ.c (constantI S_ 32 0#32),
    quaternary a0 φ.v0 φ.cst φ.c φ.v1_0 (fun x y u v j => (Host.argReduce reducer_argmax_f32_i32 x y u v reducesTo_S128x100000_S128_d1 h_S_ j).1),
    quaternary a0 φ.v0 φ.cst φ.c φ.v1_1 (fun x y u v j => (Host.argReduce reducer_argmax_f32_i32 x y u v reducesTo_S128x100000_S128_d1 h_S_ j).2)]

/-- The uniform function up to the hash: the key's words and the counters. -/
def counterOps (a0 : TRef sig ⟨S2, .i32⟩) (a1 a2 : TRef sig ⟨S_, .f32⟩) (φ : fn_uniform.Bufs) : Ops F := [
    unary a1 φ.v0 id,
    unary a2 φ.v1 id,
    unary φ.v0 φ.v2 (broadcastInDim S1x1 ![] bcast_S_S1x1),
    unary φ.v1 φ.v3 (broadcastInDim S1x1 ![] bcast_S_S1x1),
    unary a0 φ.v4 (extractStridedSlice S1 ![0] · slices_S2_S1_0),
    reshape φ.v4 φ.v5 (rfl : (.i32 : EltTy) = .i32) shapeCasts_S1_S_,
    unary a0 φ.v6 (extractStridedSlice S1 ![1] · slices_S2_S1_1),
    reshape φ.v6 φ.v7 (rfl : (.i32 : EltTy) = .i32) shapeCasts_S1_S_,
    nullary φ.v8 (iotaInDim S128x100000 64 0),
    nullary φ.v9 (iotaInDim S128x100000 64 1),
    nullary φ.c (constantI S_ 64 100000#64),
    unary φ.c φ.v10 (broadcastInDim S128x100000 ![] bcast_S_S128x100000),
    binary φ.v10 φ.v8 φ.v11 muli,
    nullary φ.c_0 (constantI S_ 64 1#64),
    unary φ.c_0 φ.v12 (broadcastInDim S128x100000 ![] bcast_S_S128x100000),
    binary φ.v12 φ.v9 φ.v13 muli,
    binary φ.v11 φ.v13 φ.v14 addi,
    nullary φ.c_1 (constantI S_ 64 32#64),
    unary φ.c_1 φ.v15 (broadcastInDim S128x100000 ![] bcast_S_S128x100000),
    binary φ.v14 φ.v15 φ.v16 Host.shrui,
    unary φ.v14 φ.v17 (trunci 32 · natLt_32_64),
    unary φ.v16 φ.v18 (trunci 32 · natLt_32_64)]

/-- The uniform function from the hash on: the bits as a number in [0, 1). -/
def unitOps (φ : fn_uniform.Bufs) : Ops F := [
    binary φ.call0.v171 φ.call0.v175 φ.v20 xori,
    nullary φ.c_2 (constantI S_ 32 9#32),
    unary φ.c_2 φ.v21 (broadcastInDim S128x100000 ![] bcast_S_S128x100000),
    binary φ.v20 φ.v21 φ.v22 Host.shrui,
    nullary φ.c_3 (constantI S_ 32 1065353216#32),
    unary φ.c_3 φ.v23 (broadcastInDim S128x100000 ![] bcast_S_S128x100000),
    binary φ.v22 φ.v23 φ.v24 ori,
    unary φ.v24 φ.v25 (bitcastToFloat .f32),
    nullary φ.cst (constant S_ .f32 0x3F800000#32),
    unary φ.cst φ.v26 (broadcastInDim S128x100000 ![] bcast_S_S128x100000),
    binary φ.v25 φ.v26 φ.v27 subf,
    binary φ.v3 φ.v2 φ.v28 subf,
    unary φ.v28 φ.v29 (broadcastInDim S128x100000 ![0, 1] bcast_S1x1_S128x100000_0_1),
    binary φ.v27 φ.v29 φ.v30 mulf,
    unary φ.v2 φ.v31 (broadcastInDim S128x100000 ![0, 1] bcast_S1x1_S128x100000_0_1),
    binary φ.v30 φ.v31 φ.v32 addf,
    unary φ.v2 φ.v33 (broadcastInDim S128x100000 ![0, 1] bcast_S1x1_S128x100000_0_1),
    binary φ.v33 φ.v32 φ.v34 maximumf]

/-- The uniform function's line. -/
def uniformOps (a0 : TRef sig ⟨S2, .i32⟩) (a1 a2 : TRef sig ⟨S_, .f32⟩) (φ : fn_uniform.Bufs) : Ops F :=
  counterOps a0 a1 a2 φ ++ (threefryOps φ.v5 φ.v7 φ.v18 φ.v17 φ.call0 ++ unitOps φ)

/-- The body of the uniform numbers' function is its line of operations. -/
theorem uniform_seq (a0 : TRef sig ⟨S2, .i32⟩) (a1 a2 : TRef sig ⟨S_, .f32⟩) (φ : fn_uniform.Bufs) :
    fn_uniform.body (F := F) a0 a1 a2 φ = seq (uniformOps a0 a1 a2 φ) := rfl

/-! ## @main -/

/-- The temperatures, with ones for zeros: the condition and the ones. -/
def zeroOps : Ops F := [
    StableHlo.nullary main_cst (constant S_ .f32 0x00000000#32),
    StableHlo.unary main_cst main_v1 (broadcastInDim S128 ![] bcast_S_S128 : (⟨S_, .f32⟩ : BufTy).Contents (Elt F) → (⟨S128, .f32⟩ : BufTy).Contents (Elt F)),
    StableHlo.binary main_arg1 main_v1 main_v2 (cmpf .oeq : (⟨S128, .f32⟩ : BufTy).Contents (Elt F) → (⟨S128, .f32⟩ : BufTy).Contents (Elt F) → (⟨S128, .i1⟩ : BufTy).Contents (Elt F)),
    StableHlo.nullary main_cst_0 (constant S_ .f32 0x3F800000#32),
    StableHlo.unary main_cst_0 main_v3 (broadcastInDim S128 ![] bcast_S_S128 : (⟨S_, .f32⟩ : BufTy).Contents (Elt F) → (⟨S128, .f32⟩ : BufTy).Contents (Elt F))]

/-- The scaled logits and the probabilities. -/
def probsOps : Ops F := [
    StableHlo.unary main_v4 main_v5 (broadcastInDim S128x1 ![0] bcast_S128_S128x1_0 : (⟨S128, .f32⟩ : BufTy).Contents (Elt F) → (⟨S128x1, .f32⟩ : BufTy).Contents (Elt F)),
    StableHlo.unary main_v5 main_v6 (broadcastInDim S128x100000 ![0, 1] bcast_S128x1_S128x100000_0_1 : (⟨S128x1, .f32⟩ : BufTy).Contents (Elt F) → (⟨S128x100000, .f32⟩ : BufTy).Contents (Elt F)),
    StableHlo.binary main_arg0 main_v6 main_v7 (Host.divf : (⟨S128x100000, .f32⟩ : BufTy).Contents (Elt F) → (⟨S128x100000, .f32⟩ : BufTy).Contents (Elt F) → (⟨S128x100000, .f32⟩ : BufTy).Contents (Elt F)),
    StableHlo.nullary main_cst_1 (constant S_ .f32 0xFF800000#32),
    StableHlo.binary main_v7 main_cst_1 main_v8 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    StableHlo.nullary main_cst_2 (constant S_ .f32 0xFF800000#32),
    StableHlo.unary main_cst_2 main_v9 (broadcastInDim S128 ![] bcast_S_S128 : (⟨S_, .f32⟩ : BufTy).Contents (Elt F) → (⟨S128, .f32⟩ : BufTy).Contents (Elt F)),
    StableHlo.binary main_v9 main_v8 main_v10 (maximumf : (⟨S128, .f32⟩ : BufTy).Contents (Elt F) → (⟨S128, .f32⟩ : BufTy).Contents (Elt F) → (⟨S128, .f32⟩ : BufTy).Contents (Elt F)),
    StableHlo.unary main_v10 main_v11 (broadcastInDim S128x1 ![0] bcast_S128_S128x1_0 : (⟨S128, .f32⟩ : BufTy).Contents (Elt F) → (⟨S128x1, .f32⟩ : BufTy).Contents (Elt F)),
    StableHlo.unary main_v11 main_v12 (broadcastInDim S128x100000 ![0, 1] bcast_S128x1_S128x100000_0_1 : (⟨S128x1, .f32⟩ : BufTy).Contents (Elt F) → (⟨S128x100000, .f32⟩ : BufTy).Contents (Elt F)),
    StableHlo.binary main_v7 main_v12 main_v13 (subf : (⟨S128x100000, .f32⟩ : BufTy).Contents (Elt F) → (⟨S128x100000, .f32⟩ : BufTy).Contents (Elt F) → (⟨S128x100000, .f32⟩ : BufTy).Contents (Elt F)),
    StableHlo.unary main_v13 main_v14 (Host.exp : (⟨S128x100000, .f32⟩ : BufTy).Contents (Elt F) → (⟨S128x100000, .f32⟩ : BufTy).Contents (Elt F)),
    StableHlo.nullary main_cst_3 (constant S_ .f32 0x00000000#32),
    StableHlo.binary main_v14 main_cst_3 main_v15 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    StableHlo.unary main_v15 main_v16 (broadcastInDim S128x1 ![0] bcast_S128_S128x1_0 : (⟨S128, .f32⟩ : BufTy).Contents (Elt F) → (⟨S128x1, .f32⟩ : BufTy).Contents (Elt F)),
    StableHlo.unary main_v16 main_v17 (broadcastInDim S128x100000 ![0, 1] bcast_S128x1_S128x100000_0_1 : (⟨S128x1, .f32⟩ : BufTy).Contents (Elt F) → (⟨S128x100000, .f32⟩ : BufTy).Contents (Elt F)),
    StableHlo.binary main_v14 main_v17 main_v18 (Host.divf : (⟨S128x100000, .f32⟩ : BufTy).Contents (Elt F) → (⟨S128x100000, .f32⟩ : BufTy).Contents (Elt F) → (⟨S128x100000, .f32⟩ : BufTy).Contents (Elt F))]

/-- The generator's key. -/
def keyOps : Ops F := [
    StableHlo.nullary main_c (constantI S_ 32 42#32),
    StableHlo.nullary main_c_4 (constantI S_ 32 32#32),
    StableHlo.binary main_c main_c_4 main_v19 (Host.shrui : (⟨S_, .i32⟩ : BufTy).Contents (Elt F) → (⟨S_, .i32⟩ : BufTy).Contents (Elt F) → (⟨S_, .i32⟩ : BufTy).Contents (Elt F)),
    StableHlo.unary main_v19 main_v20 (id : (⟨S_, .i32⟩ : BufTy).Contents (Elt F) → (⟨S_, .i32⟩ : BufTy).Contents (Elt F)),
    StableHlo.unary main_v20 main_v21 (broadcastInDim S1 ![] bcast_S_S1 : (⟨S_, .i32⟩ : BufTy).Contents (Elt F) → (⟨S1, .i32⟩ : BufTy).Contents (Elt F)),
    StableHlo.nullary main_c_5 (constantI S_ 32 4294967295#32),
    StableHlo.binary main_c main_c_5 main_v22 (andi : (⟨S_, .i32⟩ : BufTy).Contents (Elt F) → (⟨S_, .i32⟩ : BufTy).Contents (Elt F) → (⟨S_, .i32⟩ : BufTy).Contents (Elt F)),
    StableHlo.unary main_v22 main_v23 (id : (⟨S_, .i32⟩ : BufTy).Contents (Elt F) → (⟨S_, .i32⟩ : BufTy).Contents (Elt F)),
    StableHlo.unary main_v23 main_v24 (broadcastInDim S1 ![] bcast_S_S1 : (⟨S_, .i32⟩ : BufTy).Contents (Elt F) → (⟨S1, .i32⟩ : BufTy).Contents (Elt F)),
    StableHlo.binary main_v21 main_v24 main_v25 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_6 (constant S_ .f32 0x00000000#32),
    StableHlo.nullary main_cst_7 (constant S_ .f32 0x3F800000#32)]

/-- The ranks: Gumbel noise plus scaled logits. -/
def rankOps : Ops F := [
    StableHlo.nullary main_cst_8 (constant S_ .f32 0x00800000#32),
    StableHlo.unary main_cst_8 main_v27 (broadcastInDim S128x100000 ![] bcast_S_S128x100000 : (⟨S_, .f32⟩ : BufTy).Contents (Elt F) → (⟨S128x100000, .f32⟩ : BufTy).Contents (Elt F)),
    StableHlo.binary main_v26 main_v27 main_v28 (maximumf : (⟨S128x100000, .f32⟩ : BufTy).Contents (Elt F) → (⟨S128x100000, .f32⟩ : BufTy).Contents (Elt F) → (⟨S128x100000, .f32⟩ : BufTy).Contents (Elt F)),
    StableHlo.unary main_v28 main_v29 (Host.log : (⟨S128x100000, .f32⟩ : BufTy).Contents (Elt F) → (⟨S128x100000, .f32⟩ : BufTy).Contents (Elt F)),
    StableHlo.unary main_v29 main_v30 (Host.negf : (⟨S128x100000, .f32⟩ : BufTy).Contents (Elt F) → (⟨S128x100000, .f32⟩ : BufTy).Contents (Elt F)),
    StableHlo.unary main_v30 main_v31 (Host.log : (⟨S128x100000, .f32⟩ : BufTy).Contents (Elt F) → (⟨S128x100000, .f32⟩ : BufTy).Contents (Elt F)),
    StableHlo.unary main_v31 main_v32 (Host.negf : (⟨S128x100000, .f32⟩ : BufTy).Contents (Elt F) → (⟨S128x100000, .f32⟩ : BufTy).Contents (Elt F)),
    StableHlo.binary main_v32 main_v7 main_v33 (addf : (⟨S128x100000, .f32⟩ : BufTy).Contents (Elt F) → (⟨S128x100000, .f32⟩ : BufTy).Contents (Elt F) → (⟨S128x100000, .f32⟩ : BufTy).Contents (Elt F))]

/-- The condition of the last choice. -/
def coldOps : Ops F := [
    StableHlo.nullary main_cst_9 (constant S_ .f32 0x00000000#32),
    StableHlo.unary main_cst_9 main_v35 (broadcastInDim S128 ![] bcast_S_S128 : (⟨S_, .f32⟩ : BufTy).Contents (Elt F) → (⟨S128, .f32⟩ : BufTy).Contents (Elt F)),
    StableHlo.binary main_arg1 main_v35 main_v36 (cmpf .oeq : (⟨S128, .f32⟩ : BufTy).Contents (Elt F) → (⟨S128, .f32⟩ : BufTy).Contents (Elt F) → (⟨S128, .i1⟩ : BufTy).Contents (Elt F))]

/-- The whole line. -/
def mainOps : Ops F :=
  argmaxOps t_arg0 main_call0 ++ (zeroOps ++ ([ternary t_v2 t_v3 t_arg1 main_call1.v0 select] ++ (probsOps ++ (keyOps ++
    (uniformOps t_v25 t_cst_6 t_cst_7 main_call2 ++ (rankOps ++ (argmax0Ops t_v33 main_call3 ++ (coldOps ++
      [ternary t_v36 t_v0 t_v34 main_call4.v0 select]))))))))

/-- A call whose body is a line, before a line, is the two lines in order. -/
theorem call_seq {l₁ l₂ : Ops F} {p k : Prog (TpuEff nD τ sig (Elt F) (Pipeline.Sig Λ₀ (Fin 0) fun p => (pcfgs (F := F) p).Adm) .tc) PUnit}
    (h₁ : p = seq l₁) (h₂ : k = seq l₂) : (p >>= fun _ => k) = seq (l₁ ++ l₂) := by
  rw [seq_append, h₁, h₂]

/-- An operation before a line is the line with the operation first. -/
theorem op_seq {op : HloOp τ sig (Elt F)} {l : Ops F}
    {k : Prog (TpuEff nD τ sig (Elt F) (Pipeline.Sig Λ₀ (Fin 0) fun p => (pcfgs (F := F) p).Adm) .tc) PUnit}
    (h : k = seq l) : ((hlo rfl op fun _ => .ret (⟨⟩ : PUnit)) >>= fun _ => k) = seq (op :: l) := by
  rw [h]; rfl

set_option maxRecDepth 8000 in
/-- The reference program is its line. -/
theorem main_seq (d : Dev nD) : main (F := F) d = seq mainOps := by
  refine call_seq rfl ?_
  iterate 5 refine op_seq ?_
  refine call_seq (l₁ := [ternary t_v2 t_v3 t_arg1 main_call1.v0 select]) rfl ?_
  iterate 29 refine op_seq ?_
  refine call_seq (l₁ := uniformOps t_v25 t_cst_6 t_cst_7 main_call2) (uniform_seq _ _ _ _) ?_
  iterate 8 refine op_seq ?_
  refine call_seq (l₁ := argmax0Ops t_v33 main_call3) rfl ?_
  iterate 3 refine op_seq ?_
  exact call_seq (l₁ := [ternary t_v36 t_v0 t_v34 main_call4.v0 select]) (l₂ := []) rfl rfl

end Cert.Proof.Ref

end
-- ==== Proof.RefHash.lean ====
/- Hand-written, untrusted: the reference's Threefry function, lane by lane: it is the hash on words. -/
module

public import proofs.«01_k».proof.Proof.RefOps
public import proofs.«01_k».proof.Proof.Words

@[expose] public section

noncomputable section

namespace Cert.Proof.Ref

open Cert.ReferenceIdeal Cert.ReferenceIdeal.Gen
open Idealize.ShloMosaic Idealize.ShloMosaic.TcCoe Idealize.ShloMosaic.StableHlo Cert.Proof.Line

/-- The contents of the reference's buffers. -/
abbrev Cts : Type := Valuation τ sig (Elt Ideal)

variable {W : Cts}

/-- A pair of arrays of words, at an index. -/
def at2 (W : Cts) (x y : TRef sig W2) (z : S128x100000.Idx) : Pair := (val W x z, val W y z)

/-- A typed reference to a word that holds the word `k`. -/
def Word (W : Cts) (a : TRef sig W0) (k : BitVec 32) : Prop := val W a = fun _ => k

/-- The start of the hash: the third key word, and the counters with the key added. -/
theorem start_at {a0 a1 : TRef sig W0} {a2 a3 : TRef sig W2} {x c k : TRef sig W0} {s₀ y₀ s₁ y₁ : TRef sig W2} {p q : BitVec 32}
    (h : Held W (startOps a0 a1 a2 a3 x c k s₀ y₀ s₁ y₁)) (h0 : Word W a0 p) (h1 : Word W a1 q) (z : S128x100000.Idx) :
    Word W k (IntOp.xori (IntOp.xori p q) 466688986#32)
      ∧ at2 W y₀ y₁ z = (IntOp.addi (val W a2 z) p, IntOp.addi (val W a3 z) q) := by
  obtain ⟨e1, h⟩ := h.cons
  obtain ⟨e2, h⟩ := h.cons
  obtain ⟨e3, h⟩ := h.cons
  obtain ⟨e4, h⟩ := h.cons
  obtain ⟨e5, h⟩ := h.cons
  obtain ⟨e6, h⟩ := h.cons
  obtain ⟨e7, -⟩ := h.cons
  unfold Word at h0 h1
  have k1 := binary_eq e1
  have k2 := nullary_eq e2
  have k3 := binary_eq e3
  have k4 := unary_eq e4
  have k5 := binary_eq e5
  have k6 := unary_eq e6
  have k7 := binary_eq e7
  rw [h0, h1] at k1
  rw [k1, k2] at k3
  rw [h0] at k4
  rw [k4] at k5
  rw [h1] at k6
  rw [k6] at k7
  exact ⟨k3, Prod.ext (congrFun k5 z) (congrFun k7 z)⟩

/-- A round of the hash, at an index. -/
theorem round_at {x y x' : TRef sig W2} {c : TRef sig W0} {s l : TRef sig W2} {c' : TRef sig W0}
    {s' q o y' : TRef sig W2} {r r' : BitVec 32} (h : Held W (roundOps x y x' c s l c' s' q o y' r r'))
    (hr : r.toNat < 32) (hr' : r'.toNat < 32) (z : S128x100000.Idx) : at2 W x' y' z = rnd r r' (at2 W x y z) := by
  obtain ⟨e1, h⟩ := h.cons
  obtain ⟨e2, h⟩ := h.cons
  obtain ⟨e3, h⟩ := h.cons
  obtain ⟨e4, h⟩ := h.cons
  obtain ⟨e5, h⟩ := h.cons
  obtain ⟨e6, h⟩ := h.cons
  obtain ⟨e7, h⟩ := h.cons
  obtain ⟨e8, h⟩ := h.cons
  obtain ⟨e9, -⟩ := h.cons
  have k1 := binary_eq e1
  have k2 := nullary_eq e2
  have k3 := unary_eq e3
  have k4 := binary_eq e4
  have k5 := nullary_eq e5
  have k6 := unary_eq e6
  have k7 := binary_eq e7
  have k8 := binary_eq e8
  have k9 := binary_eq e9
  rw [k2] at k3
  rw [k3] at k4
  rw [k5] at k6
  rw [k6] at k7
  rw [k4, k7] at k8
  rw [k8, k1] at k9
  have n9 : val W y' z = IntOp.xori (IntOp.addi (val W x z) (val W y z)) (IntOp.ori (IntOp.shli .host (val W y z) r) (IntOp.shrui .host (val W y z) r')) :=
    congrFun k9 z
  rw [shli_host hr, shrui_host hr', show ∀ u v : BitVec 32, IntOp.xori u v = IntOp.xori v u from fun u v => BitVec.xor_comm u v] at n9
  exact Prod.ext (congrFun k1 z) n9

/-- A key injection, at an index. -/
theorem inject_at {x y : TRef sig W2} {k k' : TRef sig W0} {s x' s' t : TRef sig W2} {c : TRef sig W0}
    {s'' y' : TRef sig W2} {n a b : BitVec 32} (h : Held W (injectOps x y k k' s x' s' t c s'' y' n)) (ha : Word W k a) (hb : Word W k' b)
    (z : S128x100000.Idx) : at2 W x' y' z = inj a b n (at2 W x y z) := by
  obtain ⟨e1, h⟩ := h.cons
  obtain ⟨e2, h⟩ := h.cons
  obtain ⟨e3, h⟩ := h.cons
  obtain ⟨e4, h⟩ := h.cons
  obtain ⟨e5, h⟩ := h.cons
  obtain ⟨e6, h⟩ := h.cons
  obtain ⟨e7, -⟩ := h.cons
  unfold Word at ha hb
  have k1 := unary_eq e1
  have k2 := binary_eq e2
  have k3 := unary_eq e3
  have k4 := binary_eq e4
  have k5 := nullary_eq e5
  have k6 := unary_eq e6
  have k7 := binary_eq e7
  rw [ha] at k1
  rw [k1] at k2
  rw [hb] at k3
  rw [k3] at k4
  rw [k5] at k6
  rw [k4, k6] at k7
  exact Prod.ext (congrFun k2 z) (congrFun k7 z)

/-- The function hashes every pair of counters. -/
theorem threefry_at {a0 a1 : TRef sig ⟨S_, .i32⟩} {a2 a3 : TRef sig ⟨S128x100000, .i32⟩} {φ : fn_threefry2x32.Bufs}
    (h : Held W (threefryOps a0 a1 a2 a3 φ)) (h0 : Word W a0 0#32) (h1 : Word W a1 42#32) (z : S128x100000.Idx) :
    at2 W φ.v171 φ.v175 z = hash (at2 W a2 a3 z) := by
  obtain ⟨hs, h⟩ := h.append
  obtain ⟨r1, h⟩ := h.append
  obtain ⟨r2, h⟩ := h.append
  obtain ⟨r3, h⟩ := h.append
  obtain ⟨r4, h⟩ := h.append
  obtain ⟨i1, h⟩ := h.append
  obtain ⟨r5, h⟩ := h.append
  obtain ⟨r6, h⟩ := h.append
  obtain ⟨r7, h⟩ := h.append
  obtain ⟨r8, h⟩ := h.append
  obtain ⟨i2, h⟩ := h.append
  obtain ⟨r9, h⟩ := h.append
  obtain ⟨r10, h⟩ := h.append
  obtain ⟨r11, h⟩ := h.append
  obtain ⟨r12, h⟩ := h.append
  obtain ⟨i3, h⟩ := h.append
  obtain ⟨r13, h⟩ := h.append
  obtain ⟨r14, h⟩ := h.append
  obtain ⟨r15, h⟩ := h.append
  obtain ⟨r16, h⟩ := h.append
  obtain ⟨i4, h⟩ := h.append
  obtain ⟨r17, h⟩ := h.append
  obtain ⟨r18, h⟩ := h.append
  obtain ⟨r19, h⟩ := h.append
  obtain ⟨r20, i5⟩ := h.append
  obtain ⟨h2, e⟩ := start_at hs h0 h1 z
  have ek : IntOp.xori (IntOp.xori 0#32 42#32) 466688986#32 = 466689008#32 := by decide
  rw [ek] at h2
  rw [inject_at i5 h2 h0, round_at r20 (by decide) (by decide), round_at r19 (by decide) (by decide), round_at r18 (by decide) (by decide),
    round_at r17 (by decide) (by decide), inject_at i4 h1 h2, round_at r16 (by decide) (by decide), round_at r15 (by decide) (by decide),
    round_at r14 (by decide) (by decide), round_at r13 (by decide) (by decide), inject_at i3 h0 h1, round_at r12 (by decide) (by decide),
    round_at r11 (by decide) (by decide), round_at r10 (by decide) (by decide), round_at r9 (by decide) (by decide), inject_at i2 h2 h0,
    round_at r8 (by decide) (by decide), round_at r7 (by decide) (by decide), round_at r6 (by decide) (by decide),
    round_at r5 (by decide) (by decide), inject_at i1 h1 h2, round_at r4 (by decide) (by decide), round_at r3 (by decide) (by decide),
    round_at r2 (by decide) (by decide), round_at r1 (by decide) (by decide), e]
  unfold hash four four' at2
  rfl

end Cert.Proof.Ref

end
-- ==== Proof.RefNoise.lean ====
/- Hand-written, untrusted: the reference's uniform numbers, element by element. -/
module

public import proofs.«01_k».proof.Proof.RefHash
public import Idealize.ShloMosaic.Lib.IdealHost
public import Idealize.ShloMosaic.Lib.Pipeline.Value

@[expose] public section

noncomputable section

namespace Cert.Proof.Ref

open Cert.ReferenceIdeal Cert.ReferenceIdeal.Gen
open Idealize.ShloMosaic
open Idealize.ShloMosaic.TcCoe Idealize.ShloMosaic.ValueIdx Idealize.ShloMosaic.StableHlo Cert.Proof.Line

variable {W : Cts}

/-- A counter as the reference computes it, in 64 bits: its low word, -/
theorem counter_low (r l : Nat) (hr : r < 128) (hl : l < 100000) :
    (100000#64 * BitVec.ofNat 64 r + 1#64 * BitVec.ofNat 64 l).setWidth 32 = BitVec.ofNat 32 (100000 * r + l) := by
  apply BitVec.eq_of_toNat_eq
  simp only [BitVec.toNat_setWidth, BitVec.toNat_add, BitVec.toNat_mul, BitVec.toNat_ofNat]
  have e1 : 100000 % 2 ^ 64 = 100000 := by decide
  have e2 : 1 % 2 ^ 64 = 1 := by decide
  have e3 : r % 2 ^ 64 = r := Nat.mod_eq_of_lt (by omega)
  have e4 : l % 2 ^ 64 = l := Nat.mod_eq_of_lt (by omega)
  rw [e1, e2, e3, e4, Nat.one_mul, Nat.mod_eq_of_lt (a := 100000 * r) (by omega), Nat.mod_eq_of_lt (a := l) (by omega),
    Nat.mod_eq_of_lt (a := 100000 * r + l) (b := 2 ^ 64) (by omega)]

/-- and its high word, which is 0. -/
theorem counter_high (r l : Nat) (hr : r < 128) (hl : l < 100000) :
    (IntOp.shrui .host (100000#64 * BitVec.ofNat 64 r + 1#64 * BitVec.ofNat 64 l) 32#64).setWidth 32 = 0#32 := by
  unfold IntOp.shrui
  rw [if_pos (by decide)]
  apply BitVec.eq_of_toNat_eq
  rw [BitVec.toNat_setWidth, BitVec.ushiftRight_eq', BitVec.toNat_ushiftRight]
  simp only [BitVec.toNat_add, BitVec.toNat_mul, BitVec.toNat_ofNat]
  have e1 : 100000 % 2 ^ 64 = 100000 := by decide
  have e2 : 1 % 2 ^ 64 = 1 := by decide
  have e3 : r % 2 ^ 64 = r := Nat.mod_eq_of_lt (by omega)
  have e4 : l % 2 ^ 64 = l := Nat.mod_eq_of_lt (by omega)
  have e5 : 32 % 2 ^ 64 = 32 := by decide
  rw [e1, e2, e3, e4, e5, Nat.one_mul, Nat.mod_eq_of_lt (a := 100000 * r) (by omega), Nat.mod_eq_of_lt (a := l) (by omega),
    Nat.mod_eq_of_lt (a := 100000 * r + l) (b := 2 ^ 64) (by omega), Nat.shiftRight_eq_div_pow,
    Nat.div_eq_of_lt (by omega)]

section Key

variable {a0 : TRef sig ⟨S2, .i32⟩} {a1 a2 : TRef sig ⟨S_, .f32⟩} {φ : fn_uniform.Bufs}

/-- The key's words and the pair of counters. -/
theorem counter_at (h : Held W (counterOps a0 a1 a2 φ))
    (hk : val W a0 = concatenate S2 0 [⟨S1, fun _ => 0#32⟩, ⟨S1, fun _ => 42#32⟩] concatenates_S1_S1_S2_d0) :
    Word W φ.v5 0#32 ∧ Word W φ.v7 42#32
      ∧ (∀ z : S128x100000.Idx, at2 W φ.v18 φ.v17 z = (0#32, BitVec.ofNat 32 (100000 * (z 0).val + (z 1).val)))
      ∧ val W φ.v2 = (fun _ => val W a1 (fun a => a.elim0)) ∧ val W φ.v3 = (fun _ => val W a2 (fun a => a.elim0)) := by
  obtain ⟨e1, h⟩ := h.cons
  obtain ⟨e2, h⟩ := h.cons
  obtain ⟨e3, h⟩ := h.cons
  obtain ⟨e4, h⟩ := h.cons
  obtain ⟨e5, h⟩ := h.cons
  obtain ⟨e6, h⟩ := h.cons
  obtain ⟨e7, h⟩ := h.cons
  obtain ⟨e8, h⟩ := h.cons
  obtain ⟨e9, h⟩ := h.cons
  obtain ⟨e10, h⟩ := h.cons
  obtain ⟨e11, h⟩ := h.cons
  obtain ⟨e12, h⟩ := h.cons
  obtain ⟨e13, h⟩ := h.cons
  obtain ⟨e14, h⟩ := h.cons
  obtain ⟨e15, h⟩ := h.cons
  obtain ⟨e16, h⟩ := h.cons
  obtain ⟨e17, h⟩ := h.cons
  obtain ⟨e18, h⟩ := h.cons
  obtain ⟨e19, h⟩ := h.cons
  obtain ⟨e20, h⟩ := h.cons
  obtain ⟨e21, h⟩ := h.cons
  obtain ⟨e22, -⟩ := h.cons
  have k1 := unary_eq e1
  have k2 := unary_eq e2
  have k3 := unary_eq e3
  have k4 := unary_eq e4
  have k5 := unary_eq e5
  have k6 := reshape_eq e6
  have k7 := unary_eq e7
  have k8 := reshape_eq e8
  have k9 := nullary_eq e9
  have k10 := nullary_eq e10
  have k11 := nullary_eq e11
  have k12 := unary_eq e12
  have k13 := binary_eq e13
  have k14 := nullary_eq e14
  have k15 := unary_eq e15
  have k16 := binary_eq e16
  have k17 := binary_eq e17
  have k18 := nullary_eq e18
  have k19 := unary_eq e19
  have k20 := binary_eq e20
  have k21 := unary_eq e21
  have k22 := unary_eq e22
  rw [hk] at k5 k7
  rw [k5] at k6
  rw [k7] at k8
  rw [k11] at k12
  rw [k12, k9] at k13
  rw [k14] at k15
  rw [k15, k10] at k16
  rw [k13, k16] at k17
  rw [k18] at k19
  rw [k17, k19] at k20
  rw [k17] at k21
  rw [k20] at k22
  rw [k1] at k3
  rw [k2] at k4
  refine ⟨?_, ?_, fun z => ?_, ?_, ?_⟩
  · unfold Word; rw [k6]; funext z; exact (shapeCast_apply _ shapeCasts_S1_S_ z (ix1 0) rfl).trans rfl
  · unfold Word; rw [k8]; funext z; exact (shapeCast_apply _ shapeCasts_S1_S_ z (ix1 0) rfl).trans rfl
  · have hr : (z 0).val < 128 := (z 0).isLt
    have hl : (z 1).val < 100000 := (z 1).isLt
    exact Prod.ext ((congrFun k22 z).trans (counter_high _ _ hr hl)) ((congrFun k21 z).trans (counter_low _ _ hr hl))
  · rw [k3]; funext z; exact congrArg (val W a1) (Subsingleton.elim _ _)
  · rw [k4]; funext z; exact congrArg (val W a2) (Subsingleton.elim _ _)

/-- The uniform numbers. -/
theorem unit_at (h : Held W (unitOps φ)) (h2 : val W φ.v2 = fun _ => (0 : EReal)) (h3 : val W φ.v3 = fun _ => (1 : EReal)) (z : S128x100000.Idx) :
    val W φ.v34 z = max 0 (unitOf (IntOp.xori (at2 W φ.call0.v171 φ.call0.v175 z).1 (at2 W φ.call0.v171 φ.call0.v175 z).2)) := by
  obtain ⟨e1, h⟩ := h.cons
  obtain ⟨e2, h⟩ := h.cons
  obtain ⟨e3, h⟩ := h.cons
  obtain ⟨e4, h⟩ := h.cons
  obtain ⟨e5, h⟩ := h.cons
  obtain ⟨e6, h⟩ := h.cons
  obtain ⟨e7, h⟩ := h.cons
  obtain ⟨e8, h⟩ := h.cons
  obtain ⟨e9, h⟩ := h.cons
  obtain ⟨e10, h⟩ := h.cons
  obtain ⟨e11, h⟩ := h.cons
  obtain ⟨e12, h⟩ := h.cons
  obtain ⟨e13, h⟩ := h.cons
  obtain ⟨e14, h⟩ := h.cons
  obtain ⟨e15, h⟩ := h.cons
  obtain ⟨e16, h⟩ := h.cons
  obtain ⟨e17, h⟩ := h.cons
  obtain ⟨e18, -⟩ := h.cons
  have k1 := binary_eq e1
  have k2 := nullary_eq e2
  have k3 := unary_eq e3
  have k4 := binary_eq e4
  have k5 := nullary_eq e5
  have k6 := unary_eq e6
  have k7 := binary_eq e7
  have k8 := unary_eq e8
  have k9 := nullary_eq e9
  have k10 := unary_eq e10
  have k11 := binary_eq e11
  have k12 := binary_eq e12
  have k13 := unary_eq e13
  have k14 := binary_eq e14
  have k15 := unary_eq e15
  have k16 := binary_eq e16
  have k17 := unary_eq e17
  have k18 := binary_eq e18
  rw [k2] at k3
  rw [k1, k3] at k4
  rw [k5] at k6
  rw [k4, k6] at k7
  rw [k7] at k8
  rw [k9] at k10
  have n11 : val W φ.v27 z = unitOf (IntOp.xori (val W φ.call0.v171 z) (val W φ.call0.v175 z)) := by
    rw [k11, k8, k10]
    unfold unitOf
    rw [← shrui_host (by decide)]
    rfl
  rw [h2, h3] at k12
  rw [k12] at k13
  rw [h2] at k15 k17
  have n14 : val W φ.v30 z = val W φ.v27 z * ((1 : EReal) - 0) := by rw [k14, k13]; rfl
  have n16 : val W φ.v32 z = val W φ.v30 z + (0 : EReal) := by rw [k16, k15]; rfl
  have n18 : val W φ.v34 z = max (0 : EReal) (val W φ.v32 z) := by rw [k18, k17]; rfl
  rw [n18, n16, n14, n11, sub_zero, mul_one, add_zero]
  rfl

/-- The uniform function: every number is the unit number of its counter's bits, or 0 if that is greater. -/
theorem uniform_at (h : Held W (uniformOps a0 a1 a2 φ))
    (hk : val W a0 = concatenate S2 0 [⟨S1, fun _ => 0#32⟩, ⟨S1, fun _ => 42#32⟩] concatenates_S1_S1_S2_d0)
    (h1 : val W a1 = fun _ => (0 : EReal)) (h2 : val W a2 = fun _ => (1 : EReal)) (z : S128x100000.Idx) :
    val W φ.v34 z = max 0 (unitOf (bitsOf (BitVec.ofNat 32 (100000 * (z 0).val + (z 1).val)))) := by
  obtain ⟨hc, h⟩ := h.append
  obtain ⟨ht, hu⟩ := h.append
  obtain ⟨c1, c2, c3, c4, c5⟩ := counter_at hc hk
  rw [h1] at c4
  rw [h2] at c5
  rw [unit_at hu c4 c5 z, threefry_at ht c1 c2 z, c3 z]
  rfl

end Key

end Cert.Proof.Ref

end
-- ==== Proof.RefRun.lean ====
/- Hand-written, untrusted: the reference's line is ordered — every operation writes the next buffer, from buffers below
   it —, so it runs, leaves the arguments as they were, and every operation's equation holds of the final contents. -/
module

public import proofs.«01_k».proof.Proof.RefOps

@[expose] public section

noncomputable section

namespace Cert.Proof.Ref

open Cert.ReferenceIdeal Cert.ReferenceIdeal.Gen Cert.Proof.Line
open Idealize.ShloMosaic Idealize.ShloMosaic.TcCoe Idealize.ShloMosaic.StableHlo Idealize.ShloMosaic.StableHlo.TRef Idealize.SL.Sem

variable {F : FTy → Type} [FloatOps F]

/-! ## The Threefry function's blocks -/

section Blocks

variable {n : Nat} {rest : Ops F}

/-- The start of the hash before an ordered line is ordered. -/
theorem start_append {a0 a1 : TRef sig W0} {a2 a3 : TRef sig W2} {x c k : TRef sig W0} {s₀ y₀ s₁ y₁ : TRef sig W2}
    (h : num a0.ref < n ∧ num a1.ref < n ∧ num a2.ref < n ∧ num a3.ref < n ∧ num x.ref = n ∧ num c.ref = n + 1 ∧
      num k.ref = n + 2 ∧ num s₀.ref = n + 3 ∧ num y₀.ref = n + 4 ∧ num s₁.ref = n + 5 ∧ num y₁.ref = n + 6)
    (hr : Ordered (n + 7) rest) : Ordered n (startOps a0 a1 a2 a3 x c k s₀ y₀ s₁ y₁ ++ rest) := by
  obtain ⟨h0, h1, h2, h3, hx, hc, hk, hs, hy, ht, hz⟩ := h
  exact ⟨binary_at hx h0 h1, nullary_at hc, binary_at hk (by omega) (by omega), unary_at hs (by omega),
    binary_at hy (by omega) (by omega), unary_at ht (by omega), binary_at hz (by omega) (by omega), hr⟩

/-- A round before an ordered line is ordered. -/
theorem round_append {x y x' : TRef sig W2} {c : TRef sig W0} {s l : TRef sig W2} {c' : TRef sig W0}
    {s' q o y' : TRef sig W2} {r r' : BitVec 32}
    (h : num x.ref < n ∧ num y.ref < n ∧ num x'.ref = n ∧ num c.ref = n + 1 ∧ num s.ref = n + 2 ∧ num l.ref = n + 3 ∧
      num c'.ref = n + 4 ∧ num s'.ref = n + 5 ∧ num q.ref = n + 6 ∧ num o.ref = n + 7 ∧ num y'.ref = n + 8)
    (hr : Ordered (n + 9) rest) : Ordered n (roundOps x y x' c s l c' s' q o y' r r' ++ rest) := by
  obtain ⟨hx, hy, hx', hc, hs, hl, hc', hs', hq, ho, hy'⟩ := h
  exact ⟨binary_at hx' hx hy, nullary_at hc, unary_at hs (by omega), binary_at hl (by omega) (by omega), nullary_at hc',
    unary_at hs' (by omega), binary_at hq (by omega) (by omega), binary_at ho (by omega) (by omega),
    binary_at hy' (by omega) (by omega), hr⟩

/-- A key injection before an ordered line is ordered. -/
theorem inject_append {x y : TRef sig W2} {k k' : TRef sig W0} {s x' s' z : TRef sig W2} {c : TRef sig W0}
    {s'' y' : TRef sig W2} {v : BitVec 32}
    (h : num x.ref < n ∧ num y.ref < n ∧ num k.ref < n ∧ num k'.ref < n ∧ num s.ref = n ∧ num x'.ref = n + 1 ∧
      num s'.ref = n + 2 ∧ num z.ref = n + 3 ∧ num c.ref = n + 4 ∧ num s''.ref = n + 5 ∧ num y'.ref = n + 6)
    (hr : Ordered (n + 7) rest) : Ordered n (injectOps x y k k' s x' s' z c s'' y' v ++ rest) := by
  obtain ⟨hx, hy, hk, hk', hs, hx', hs', hz, hc, hs'', hy'⟩ := h
  exact ⟨unary_at hs hk, binary_at hx' (by omega) (by omega), unary_at hs' (by omega), binary_at hz (by omega) (by omega),
    nullary_at hc, unary_at hs'' (by omega), binary_at hy' (by omega) (by omega), hr⟩

end Blocks

/-- The Threefry function's line, at the buffers of its one call. -/
theorem threefry_ordered : Ordered 64 (threefryOps (F := F) main_call2.v5 main_call2.v7 main_call2.v18 main_call2.v17 main_call2_call0) := by
  rw [← List.append_nil (threefryOps _ _ _ _ _)]
  unfold threefryOps
  simp only [List.append_assoc]
  refine start_append (by decide) ?_
  repeat first
    | refine round_append (by decide) ?_
    | refine inject_append (by decide) ?_
  exact trivial

/-! ## The other lists -/

/-- The arg-max of the logits is ordered. -/
theorem argmax_ordered : Ordered 2 (argmaxOps (F := F) t_arg0 main_call0) :=
  ⟨nullary_at rfl, nullary_at rfl, nullary_at rfl, quaternary_at rfl (by decide) (by decide) (by decide) (by decide),
    quaternary_at rfl (by decide) (by decide) (by decide) (by decide), trivial⟩

/-- The arg-max of the ranks is ordered. -/
theorem argmax0_ordered : Ordered 312 (argmax0Ops (F := F) t_v33 main_call3) :=
  ⟨nullary_at rfl, nullary_at rfl, nullary_at rfl, quaternary_at rfl (by decide) (by decide) (by decide) (by decide),
    quaternary_at rfl (by decide) (by decide) (by decide) (by decide), trivial⟩

/-- The condition and the ones that keep the temperatures from zero are ordered. -/
theorem zero_ordered : Ordered 7 (zeroOps (F := F)) := by
  repeat' first
    | exact trivial
    | refine And.intro ?_ ?_
    | exact plain_nullary_at rfl
    | exact plain_unary_at rfl (by decide)
    | exact plain_binary_at rfl (by decide) (by decide)

/-- The operations of the probabilities are ordered. -/
theorem probs_ordered : Ordered 13 (probsOps (F := F)) := by
  repeat' first
    | exact trivial
    | refine And.intro ?_ ?_
    | exact plain_nullary_at rfl
    | exact plain_unary_at rfl (by decide)
    | exact plain_binary_at rfl (by decide) (by decide)

/-- The operations of the key are ordered. -/
theorem key_ordered : Ordered 30 (keyOps (F := F)) := by
  repeat' first
    | exact trivial
    | refine And.intro ?_ ?_
    | exact plain_nullary_at rfl
    | exact plain_unary_at rfl (by decide)
    | exact plain_binary_at rfl (by decide) (by decide)

/-- The operations of the ranks are ordered. -/
theorem rank_ordered : Ordered 304 (rankOps (F := F)) := by
  repeat' first
    | exact trivial
    | refine And.intro ?_ ?_
    | exact plain_nullary_at rfl
    | exact plain_unary_at rfl (by decide)
    | exact plain_binary_at rfl (by decide) (by decide)

/-- The operations of the last choice's condition are ordered. -/
theorem cold_ordered : Ordered 317 (coldOps (F := F)) := by
  repeat' first
    | exact trivial
    | refine And.intro ?_ ?_
    | exact plain_nullary_at rfl
    | exact plain_unary_at rfl (by decide)
    | exact plain_binary_at rfl (by decide) (by decide)

/-- The operations of the counters are ordered. -/
theorem counter_ordered : Ordered 42 (counterOps (F := F) t_v25 t_cst_6 t_cst_7 main_call2) := by
  repeat' first
    | exact trivial
    | refine And.intro ?_ ?_
    | exact nullary_at rfl
    | exact unary_at rfl (by decide)
    | exact binary_at rfl (by decide) (by decide)
    | exact reshape_at rfl (by decide)

/-- The operations of the unit numbers are ordered. -/
theorem unit_ordered : Ordered 286 (unitOps (F := F) main_call2) := by
  repeat' first
    | exact trivial
    | refine And.intro ?_ ?_
    | exact nullary_at rfl
    | exact unary_at rfl (by decide)
    | exact binary_at rfl (by decide) (by decide)

/-- The last choice is ordered. -/
theorem choose_ordered : Ordered 320 ([ternary t_v36 t_v0 t_v34 main_call4.v0 select] : Ops F) :=
  ⟨ternary_at rfl (by decide) (by decide) (by decide), trivial⟩

/-- The whole line is ordered. -/
theorem main_ordered : Ordered 2 (mainOps (F := F)) :=
  argmax_ordered.append <| zero_ordered.append <|
    Ordered.append (n := 12) ⟨ternary_at rfl (by decide) (by decide) (by decide), trivial⟩ <| probs_ordered.append <|
    key_ordered.append <| (counter_ordered.append <| threefry_ordered.append unit_ordered).append <| rank_ordered.append <|
    argmax0_ordered.append <| cold_ordered.append choose_ordered

variable (m : (ℓ : Loc nD τ sig) → Buf (Elt F) ℓ) (ρ : Dev nD → PrngReg)

/-- The final contents of device `d`'s buffers. -/
def final (d : Dev nD) : Valuation τ sig (Elt F) := after mainOps (launchContents m d)

/-- Every operation's equation holds of the final contents. -/
theorem final_held (d : Dev nD) : Held (final m d) mainOps := held_after main_ordered _

/-- The logits end as they were. -/
theorem final_arg0 (d : Dev nD) : final m d (Proc.devRef .tc main_arg0) = m ((d.tc : Thread nD τ).loc main_arg0) :=
  after_below main_ordered _ _ (by decide)

/-- The temperatures end as they were. -/
theorem final_arg1 (d : Dev nD) : final m d (Proc.devRef .tc main_arg1) = m ((d.tc : Thread nD τ).loc main_arg1) :=
  after_below main_ordered _ _ (by decide)

/-- The run: every buffer as `final` says, every counter zero. -/
theorem run_main : θ_run defs (onTc (τ := τ) main) ⟨m, fun _ => 0, ρ⟩ fun r =>
    (∀ (d : Dev nD) (b : Ref sig .tc), r.2.mem ((d.tc : Thread nD τ).loc b) = final m d (Proc.devRef .tc b))
      ∧ r.2.sem = fun _ => 0 :=
  run_ordered (by decide) rfl (by decide) defs main main_seq main_ordered m ρ

/-- Every execution ends with the arguments as they were and every counter zero. -/
theorem frame : θ_run defs (onTc (τ := τ) main) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono
    (fun r h => ⟨fun c => ⟨(h.1 c main_arg0).trans (final_arg0 m c), (h.1 c main_arg1).trans (final_arg1 m c)⟩, h.2⟩)
    (run_main m ρ)

end Cert.Proof.Ref

end
-- ==== Proof.RefArgmax.lean ====
/- Hand-written, untrusted: what the reference's arg-max finds — the first place of a row where it is greatest. -/
module

public import proofs.«01_k».proof.Proof.RefRun
public import proofs.«01_k».proof.Proof.First
public import Idealize.ShloMosaic.PureOps.Ideal.Laws
public import Idealize.ShloMosaic.Lib.Pointwise.Reduce
public import Idealize.ShloMosaic.Lib.IdealHost

@[expose] public section

noncomputable section

namespace Cert.Proof.Ref

open Cert.ReferenceIdeal Cert.ReferenceIdeal.Gen
open Idealize.ShloMosaic hiding ix1 ix2 ix3 eq_ix2
open Idealize.ShloMosaic.TcCoe Idealize.ShloMosaic.ValueIdx Idealize.ShloMosaic.StableHlo Cert.Proof.Line

/-- One step of the arg-max over the extended reals: the pair before stays when its value is greater, or equal at an
    earlier place. -/
theorem reducer_cases (a b : EReal × BitVec 32) :
    (reducer_argmax_f32_i32 (F := Ideal) a b = a ∧ (b.1 < a.1 ∨ (a.1 = b.1 ∧ a.2.toInt < b.2.toInt)))
      ∨ (reducer_argmax_f32_i32 (F := Ideal) a b = b ∧ (a.1 < b.1 ∨ (a.1 = b.1 ∧ b.2.toInt ≤ a.2.toInt))) := by
  obtain ⟨x, i⟩ := a
  obtain ⟨y, j⟩ := b
  have hn : Ideal.cmp .une x x = 0#1 := by simp [Ideal.cmp]
  rcases lt_trichotomy x y with h | h | h
  · right
    refine ⟨?_, Or.inl h⟩
    have h1 : Ideal.cmp .ogt x y = 0#1 := by simp [Ideal.cmp, not_lt.2 h.le]
    have h2 : Ideal.cmp .oeq x y = 0#1 := by simp [Ideal.cmp, h.ne]
    simp only [reducer_argmax_f32_i32, Ideal.cmpf_def, hn, h1, h2]
    have z : ∀ q : BitVec 1, IntOp.andi 0#1 q = 0#1 := by decide
    rw [z]
    rfl
  · subst h
    have h1 : Ideal.cmp .ogt x x = 0#1 := by simp [Ideal.cmp]
    have h2 : Ideal.cmp .oeq x x = 1#1 := by simp [Ideal.cmp]
    by_cases hij : i.toInt < j.toInt
    · left
      refine ⟨?_, Or.inr ⟨rfl, hij⟩⟩
      have h3 : IntOp.cmpi .slt i j = 1#1 := by simp [IntOp.cmpi, BitVec.slt, hij]
      simp only [reducer_argmax_f32_i32, Ideal.cmpf_def, hn, h1, h2, h3]
      rfl
    · right
      refine ⟨?_, Or.inr ⟨rfl, not_lt.1 hij⟩⟩
      have h3 : IntOp.cmpi .slt i j = 0#1 := by simp [IntOp.cmpi, BitVec.slt, hij]
      simp only [reducer_argmax_f32_i32, Ideal.cmpf_def, hn, h1, h2, h3]
      rfl
  · left
    refine ⟨?_, Or.inl h⟩
    have h1 : Ideal.cmp .ogt x y = 1#1 := by simp [Ideal.cmp, h]
    have h2 : Ideal.cmp .oeq x y = 0#1 := by simp [Ideal.cmp, h.ne']
    simp only [reducer_argmax_f32_i32, Ideal.cmpf_def, hn, h1, h2]
    have z : ∀ q : BitVec 1, IntOp.andi 0#1 q = 0#1 := by decide
    rw [z]
    rfl

/-- `p` is at least as good a pair as `q`: its value is greater, or equal at a place no later. -/
def Beats (p q : EReal × BitVec 32) : Prop := q.1 < p.1 ∨ (p.1 = q.1 ∧ p.2.toInt ≤ q.2.toInt)

/-- The relation is reflexive. -/
theorem Beats.refl (p : EReal × BitVec 32) : Beats p p := Or.inr ⟨rfl, le_refl _⟩

/-- The relation is transitive. -/
theorem Beats.trans {p q r : EReal × BitVec 32} (h : Beats p q) (h' : Beats q r) : Beats p r := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- Folding the arg-max over a list leaves one of the pairs met, at least as good as all of them. -/
theorem fold_best (l : List (EReal × BitVec 32)) : ∀ a, (l.foldl (reducer_argmax_f32_i32 (F := Ideal)) a = a ∨ l.foldl (reducer_argmax_f32_i32 (F := Ideal)) a ∈ l)
    ∧ Beats (l.foldl (reducer_argmax_f32_i32 (F := Ideal)) a) a ∧ ∀ q ∈ l, Beats (l.foldl (reducer_argmax_f32_i32 (F := Ideal)) a) q := by
  induction l with
  | nil => exact fun a => ⟨Or.inl rfl, Beats.refl a, fun q hq => absurd hq (List.not_mem_nil)⟩
  | cons b l ih =>
    intro a
    obtain ⟨h1, h2, h3⟩ := ih (reducer_argmax_f32_i32 (F := Ideal) a b)
    rw [List.foldl_cons]
    rcases reducer_cases a b with ⟨e, hc⟩ | ⟨e, hc⟩
    · rw [e] at h1 h2 h3 ⊢
      have hab : Beats a b := hc.imp id fun h => ⟨h.1, h.2.le⟩
      refine ⟨h1.imp id (List.mem_cons_of_mem _), h2, fun q hq => ?_⟩
      rcases List.mem_cons.1 hq with rfl | hq
      · exact h2.trans hab
      · exact h3 q hq
    · rw [e] at h1 h2 h3 ⊢
      have hba : Beats b a := hc.imp id fun h => ⟨h.1.symm, h.2⟩
      refine ⟨Or.inr (List.mem_cons.2 h1), h2.trans hba, fun q hq => ?_⟩
      rcases List.mem_cons.1 hq with rfl | hq
      · exact h2
      · exact h3 q hq

/-- The place of a column, as a signed word. -/
theorem place_toInt (C : Nat) (h : C < 100000) : (BitVec.ofNat 32 C).toInt = C ∧ (BitVec.ofNat 32 C).toNat = C := by
  have e : (BitVec.ofNat 32 C).toNat = C := by rw [BitVec.toNat_ofNat]; exact Nat.mod_eq_of_lt (by omega)
  exact ⟨by rw [BitVec.toInt_eq_toNat_of_lt (by omega), e], e⟩

/-- A row's pairs are its values, each with its column. -/
theorem mem_fiber (x : S128x100000.Idx → EReal) (R : Fin 128) (p : EReal × BitVec 32) :
    p ∈ Host.argReduceFiber x (iotaInDim S128x100000 32 1) reducesTo_S128x100000_S128_d1 (ix1 R)
      ↔ ∃ C : Fin 100000, p = (x (ix2 R C), BitVec.ofNat 32 C.val) := by
  unfold Host.argReduceFiber
  rw [List.mem_map]
  constructor
  · rintro ⟨n, hn, rfl⟩
    have hd := of_decide_eq_true (List.mem_filter.1 hn).2
    obtain ⟨C, hC⟩ := (reducesTo_S128x100000_S128_d1.fiber_r2_a1 (ix1 R) _).1 hd
    refine ⟨C, ?_⟩
    rw [← hC]
    rfl
  · rintro ⟨C, rfl⟩
    refine ⟨S128x100000.rowMajor (ix2 R C), List.mem_filter.2 ⟨List.mem_finRange _, decide_eq_true ?_⟩, ?_⟩
    · rw [Equiv.symm_apply_apply]
      exact (reducesTo_S128x100000_S128_d1.fiber_r2_a1 (ix1 R) _).2 ⟨C, rfl⟩
    · rw [Equiv.symm_apply_apply]
      rfl

/-- The arg-max of a row is the first place where it is greatest. -/
theorem argmax_first (x : S128x100000.Idx → EReal) (u : S_.Idx → EReal) (v : S_.Idx → BitVec 32) (hu : ∀ z, u z = ⊥) (hv : ∀ z, v z = 0#32)
    (R : Fin 128) (r : Nat → EReal) (hr : ∀ C : Fin 100000, r C.val = x (ix2 R C)) :
    FirstMax r 100000 (BitVec.toNat (w := 32) (Host.argReduce (F := Ideal) (φ := .f32) reducer_argmax_f32_i32 x (iotaInDim S128x100000 32 1) u v
      reducesTo_S128x100000_S128_d1 h_S_ (ix1 R)).2) := by
  rw [Ideal.argReduce_eq_reduce2, Host.reduce2_eq_foldl_fiber, hu, hv]
  obtain ⟨h1, h2, h3⟩ := fold_best (Host.argReduceFiber x (iotaInDim S128x100000 32 1) reducesTo_S128x100000_S128_d1 (ix1 R)) (⊥, 0#32)
  generalize List.foldl _ _ _ = p at h1 h2 h3 ⊢
  have hb : ∀ C : Fin 100000, Beats p (x (ix2 R C), BitVec.ofNat 32 C.val) := fun C => h3 _ ((mem_fiber x R _).2 ⟨C, rfl⟩)
  have key : ∃ C : Fin 100000, p.2 = BitVec.ofNat 32 C.val ∧ p.1 = x (ix2 R C) := by
    rcases h1 with rfl | h1
    · refine ⟨⟨0, by omega⟩, rfl, ?_⟩
      rcases hb ⟨0, by omega⟩ with h | h
      · exact absurd h not_lt_bot
      · exact h.1
    · obtain ⟨C, rfl⟩ := (mem_fiber x R _).1 h1
      exact ⟨C, rfl, rfl⟩
  obtain ⟨C, k2, k1⟩ := key
  rw [k2, (place_toInt C.val C.isLt).2]
  refine ⟨C.isLt, fun D hD => ?_, fun D hD => ?_⟩
  · rw [hr C, hr ⟨D, hD⟩, ← k1]
    rcases hb ⟨D, hD⟩ with h | h
    · exact h.le
    · exact h.1.ge
  · have hD' : D < 100000 := lt_trans hD C.isLt
    rw [hr C, hr ⟨D, hD'⟩, ← k1]
    rcases hb ⟨D, hD'⟩ with h | h
    · exact h
    · have := h.2
      rw [k2] at this
      rw [(place_toInt C.val C.isLt).1, (place_toInt D hD').1] at this
      omega

end Cert.Proof.Ref

end
-- ==== Proof.RefValue.lean ====
/- Hand-written, untrusted: the reference's results, element by element, where no temperature is 0. -/
module

public import proofs.«01_k».proof.Proof.RefNoise
public import proofs.«01_k».proof.Proof.RefArgmax

@[expose] public section

noncomputable section

namespace Cert.Proof.Ref

open Cert.ReferenceIdeal Cert.ReferenceIdeal.Gen
open Idealize.ShloMosaic hiding ix1 ix2 ix3 eq_ix2
open Idealize.ShloMosaic.TcCoe Idealize.ShloMosaic.ValueIdx Idealize.ShloMosaic.StableHlo Idealize.ShloMosaic.StableHlo.TRef Cert.Proof.Line

/-- A number per row, spread over the row's columns. -/
theorem rowSpread {α : Type} (v : S128.Idx → α) (R : Fin 128) (C : Fin 100000) :
    broadcastInDim S128x100000 ![0, 1] bcast_S128x1_S128x100000_0_1 (broadcastInDim S128x1 ![0] bcast_S128_S128x1_0 v) (ix2 R C) = v (ix1 R) :=
  (broadcastInDim_apply _ _ _ _ (ix2 R 0) (fun a => match a with | ⟨0, _⟩ => rfl | ⟨1, _⟩ => rfl)).trans
    (broadcastInDim_apply _ _ _ _ (ix1 R) (fun a => match a with | ⟨0, _⟩ => rfl))

/-- A comparison with 0 that fails. -/
theorem oeq_ne {x : EReal} (h : x ≠ 0) : Ideal.cmp .oeq x (Ideal.ofBits .f32 0x00000000#32) = 0#1 := by
  rw [Ideal.ofBits_zero_f32]; simp [Ideal.cmp, h]

variable (W : Cts)

/-- The logits. -/
def logitsOf : S128x100000.Idx → EReal := W (Proc.devRef .tc main_arg0)

/-- The temperatures. -/
def tempsOf : S128.Idx → EReal := W (Proc.devRef .tc main_arg1)

/-- A scaled logit. -/
def scaledOf (R : Fin 128) (C : Fin 100000) : EReal := Ideal.div (logitsOf W (ix2 R C)) (tempsOf W (ix1 R))

variable {W}

/-- The temperatures are used as they are. -/
theorem temp_at (hz : Held W zeroOps) (hs : Held W [ternary t_v2 t_v3 t_arg1 main_call1.v0 select]) (hT : ∀ R, tempsOf W R ≠ 0) :
    (W (Proc.devRef .tc main_v4) : S128.Idx → EReal) = tempsOf W := by
  obtain ⟨e1, hz⟩ := hz.cons
  obtain ⟨e2, hz⟩ := hz.cons
  obtain ⟨e3, -⟩ := hz.cons
  obtain ⟨e, -⟩ := hs.cons
  have k1 := plain_nullary_eq e1
  have k2 := plain_unary_eq e2
  have k3 := plain_binary_eq e3
  have k := ternary_eq e
  rw [k1] at k2
  rw [k2] at k3
  funext R
  have c : (W (Proc.devRef .tc main_v2) : S128.Idx → BitVec 1) R = 0#1 := (congrFun k3 R).trans (oeq_ne (hT R))
  refine (congrFun k R).trans ?_
  change Scalar.select ((W (Proc.devRef .tc main_v2) : S128.Idx → BitVec 1) R) _ _ = _
  rw [c]
  rfl

/-- The scaled logits and the probabilities. -/
theorem probs_at (hp : Held W probsOps) (h4 : (W (Proc.devRef .tc main_v4) : S128.Idx → EReal) = tempsOf W) (R : Fin 128) (C : Fin 100000) :
    (W (Proc.devRef .tc main_v7) : S128x100000.Idx → EReal) (ix2 R C) = scaledOf W R C
      ∧ (W (Proc.devRef .tc main_v18) : S128x100000.Idx → EReal) (ix2 R C)
        = Ideal.div (Ideal.exp (scaledOf W R C - max ⊥ ((Finset.univ : Finset (Fin 100000)).fold max ⊥ (scaledOf W R))))
          (0 + ∑ k : Fin 100000, Ideal.exp (scaledOf W R k - max ⊥ ((Finset.univ : Finset (Fin 100000)).fold max ⊥ (scaledOf W R)))) := by
  obtain ⟨e1, hp⟩ := hp.cons
  obtain ⟨e2, hp⟩ := hp.cons
  obtain ⟨e3, hp⟩ := hp.cons
  obtain ⟨e4, hp⟩ := hp.cons
  obtain ⟨e5, hp⟩ := hp.cons
  obtain ⟨e6, hp⟩ := hp.cons
  obtain ⟨e7, hp⟩ := hp.cons
  obtain ⟨e8, hp⟩ := hp.cons
  obtain ⟨e9, hp⟩ := hp.cons
  obtain ⟨e10, hp⟩ := hp.cons
  obtain ⟨e11, hp⟩ := hp.cons
  obtain ⟨e12, hp⟩ := hp.cons
  obtain ⟨e13, hp⟩ := hp.cons
  obtain ⟨e14, hp⟩ := hp.cons
  obtain ⟨e15, hp⟩ := hp.cons
  obtain ⟨e16, hp⟩ := hp.cons
  obtain ⟨e17, -⟩ := hp.cons
  have k1 := plain_unary_eq e1
  have k2 := plain_unary_eq e2
  have k3 := plain_binary_eq e3
  have k4 := plain_nullary_eq e4
  have k5 := plain_binary_eq e5
  have k6 := plain_nullary_eq e6
  have k7 := plain_unary_eq e7
  have k8 := plain_binary_eq e8
  have k9 := plain_unary_eq e9
  have k10 := plain_unary_eq e10
  have k11 := plain_binary_eq e11
  have k12 := plain_unary_eq e12
  have k13 := plain_nullary_eq e13
  have k14 := plain_binary_eq e14
  have k15 := plain_unary_eq e15
  have k16 := plain_unary_eq e16
  have k17 := plain_binary_eq e17
  rw [k1] at k2
  rw [k9] at k10
  rw [k15] at k16
  rw [k6] at k7
  rw [k4] at k5
  rw [k13] at k14
  have n7 : ∀ C, (W (Proc.devRef .tc main_v7) : S128x100000.Idx → EReal) (ix2 R C) = scaledOf W R C := by
    intro C
    refine (congrFun k3 _).trans ?_
    refine congrArg (Ideal.div (logitsOf W (ix2 R C))) ?_
    refine (congrFun k2 _).trans ?_
    refine (rowSpread _ R C).trans ?_
    exact congrFun h4 _
  have n8 : (W (Proc.devRef .tc main_v8) : S128.Idx → EReal) (ix1 R) = (Finset.univ : Finset (Fin 100000)).fold max ⊥ (scaledOf W R) := by
    refine (congrFun k5 _).trans ?_
    refine (Host.reduce_eq_fold (FloatOps.maximumf (F := Ideal) (φ := .f32)) _ _ reducesTo_S128x100000_S128_d1 h_S_ (ix1 R)).trans ?_
    refine (Shape.ReducesTo.fold_fiber_r2_a1 reducesTo_S128x100000_S128_d1 (ix1 R) (FloatOps.maximumf (F := Ideal) (φ := .f32)) _ _).trans ?_
    have b : (constant (F := Ideal) S_ .f32 0xFF800000#32) (Shape.Idx.first h_S_) = (⊥ : EReal) := by
      change Ideal.ofBits .f32 0xFF800000#32 = ⊥
      simp [Ideal.ofBits, Ideal.ieee]
    rw [b]
    exact congrArg (fun g => (Finset.univ : Finset (Fin 100000)).fold max (⊥ : EReal) g) (funext n7)
  have n10 : (W (Proc.devRef .tc main_v10) : S128.Idx → EReal) (ix1 R) = max ⊥ ((Finset.univ : Finset (Fin 100000)).fold max ⊥ (scaledOf W R)) := by
    refine (congrFun k8 _).trans ?_
    have b : (W (Proc.devRef .tc main_v9) : S128.Idx → EReal) (ix1 R) = (⊥ : EReal) := by
      refine (congrFun k7 _).trans ?_
      change Ideal.ofBits .f32 0xFF800000#32 = ⊥
      simp [Ideal.ofBits, Ideal.ieee]
    exact congrArg₂ (fun a b : EReal => max a b) b n8
  have n14 : ∀ C, (W (Proc.devRef .tc main_v14) : S128x100000.Idx → EReal) (ix2 R C)
      = Ideal.exp (scaledOf W R C - max ⊥ ((Finset.univ : Finset (Fin 100000)).fold max ⊥ (scaledOf W R))) := by
    intro C
    refine (congrFun k12 _).trans (congrArg Ideal.exp ?_)
    refine (congrFun k11 _).trans ?_
    refine congrArg₂ (fun a b : EReal => a - b) (n7 C) ?_
    refine (congrFun k10 _).trans ?_
    exact (rowSpread _ R C).trans n10
  refine ⟨n7 C, ?_⟩
  refine (congrFun k17 _).trans (congrArg₂ Ideal.div (n14 C) ?_)
  refine (congrFun k16 _).trans ((rowSpread _ R C).trans ?_)
  refine (congrFun k14 _).trans ?_
  refine (Ideal.hostReduceAdd_r2_a1 reducesTo_S128x100000_S128_d1 _ _ (ix1 R)).trans ?_
  exact congrArg₂ (fun a b : EReal => a + b) Ideal.ofBits_zero_f32 (Finset.sum_congr rfl fun k _ => n14 k)

/-- The key is (0, 42). -/
theorem key_at (hk : Held W keyOps) :
    val W t_v25 = concatenate S2 0 [⟨S1, fun _ => 0#32⟩, ⟨S1, fun _ => 42#32⟩] concatenates_S1_S1_S2_d0
      ∧ val W t_cst_6 = (fun _ => (0 : EReal)) ∧ val W t_cst_7 = (fun _ => (1 : EReal)) := by
  obtain ⟨e1, hk⟩ := hk.cons
  obtain ⟨e2, hk⟩ := hk.cons
  obtain ⟨e3, hk⟩ := hk.cons
  obtain ⟨e4, hk⟩ := hk.cons
  obtain ⟨e5, hk⟩ := hk.cons
  obtain ⟨e6, hk⟩ := hk.cons
  obtain ⟨e7, hk⟩ := hk.cons
  obtain ⟨e8, hk⟩ := hk.cons
  obtain ⟨e9, hk⟩ := hk.cons
  obtain ⟨e10, hk⟩ := hk.cons
  obtain ⟨e11, hk⟩ := hk.cons
  obtain ⟨e12, -⟩ := hk.cons
  have k1 := plain_nullary_eq e1
  have k2 := plain_nullary_eq e2
  have k3 := plain_binary_eq e3
  have k4 := plain_unary_eq e4
  have k5 := plain_unary_eq e5
  have k6 := plain_nullary_eq e6
  have k7 := plain_binary_eq e7
  have k8 := plain_unary_eq e8
  have k9 := plain_unary_eq e9
  have k10 := plain_binary_eq e10
  have k11 := plain_nullary_eq e11
  have k12 := plain_nullary_eq e12
  rw [k1, k2] at k3
  rw [k3] at k4
  rw [k4] at k5
  rw [k1, k6] at k7
  rw [k7] at k8
  rw [k8] at k9
  have n5 : (W (Proc.devRef .tc main_v21) : S1.Idx → BitVec 32) = fun _ => 0#32 := by
    refine k5.trans ?_
    funext z
    change IntOp.shrui .host 42#32 32#32 = 0#32
    decide
  have n9 : (W (Proc.devRef .tc main_v24) : S1.Idx → BitVec 32) = fun _ => 42#32 := by
    refine k9.trans ?_
    funext z
    change IntOp.andi 42#32 4294967295#32 = 42#32
    decide
  refine ⟨?_, ?_, ?_⟩
  · refine Eq.trans k10 ?_
    rw [n5, n9]
    rfl
  · refine Eq.trans k11 ?_
    funext z
    exact Ideal.ofBits_zero_f32
  · refine Eq.trans k12 ?_
    funext z
    exact Ideal.ofBits_one_f32

/-- The smallest normal number is not below 0. -/
theorem tiny_nonneg : (0 : EReal) ≤ Ideal.ofBits .f32 0x00800000#32 := by
  simp [Ideal.ofBits, Ideal.ieee]
  exact mul_nonneg (EReal.coe_nonneg.2 (by norm_num)) (EReal.coe_nonneg.2 (by positivity))

/-- The ranks. -/
theorem rank_at (hr : Held W rankOps) (n : BitVec 32) (z : S128x100000.Idx) (x : EReal)
    (h26 : (W (Proc.devRef .tc main_v26) : S128x100000.Idx → EReal) z = max 0 (unitOf (bitsOf n)))
    (h7 : (W (Proc.devRef .tc main_v7) : S128x100000.Idx → EReal) z = x) :
    (W (Proc.devRef .tc main_v33) : S128x100000.Idx → EReal) z = noise n + x := by
  obtain ⟨e1, hr⟩ := hr.cons
  obtain ⟨e2, hr⟩ := hr.cons
  obtain ⟨e3, hr⟩ := hr.cons
  obtain ⟨e4, hr⟩ := hr.cons
  obtain ⟨e5, hr⟩ := hr.cons
  obtain ⟨e6, hr⟩ := hr.cons
  obtain ⟨e7, hr⟩ := hr.cons
  obtain ⟨e8, -⟩ := hr.cons
  have k1 := plain_nullary_eq e1
  have k2 := plain_unary_eq e2
  have k3 := plain_binary_eq e3
  have k4 := plain_unary_eq e4
  have k5 := plain_unary_eq e5
  have k6 := plain_unary_eq e6
  have k7 := plain_unary_eq e7
  have k8 := plain_binary_eq e8
  rw [k1] at k2
  have n3 : (W (Proc.devRef .tc main_v28) : S128x100000.Idx → EReal) z = max (Ideal.ofBits .f32 0x00800000#32) (unitOf (bitsOf n)) := by
    refine (congrFun k3 z).trans ?_
    refine (congrArg₂ (fun a b : EReal => max a b) h26 (congrFun k2 z)).trans ?_
    change max (max 0 (unitOf (bitsOf n))) (Ideal.ofBits .f32 0x00800000#32) = _
    rw [max_comm, ← max_assoc, max_eq_left tiny_nonneg]
  refine (congrFun k8 z).trans ?_
  refine congrArg₂ (fun a b : EReal => a + b) ?_ h7
  refine (congrFun k7 z).trans (congrArg (fun a : EReal => -a) ?_)
  refine (congrFun k6 z).trans (congrArg Ideal.log ?_)
  refine (congrFun k5 z).trans (congrArg (fun a : EReal => -a) ?_)
  exact (congrFun k4 z).trans (congrArg Ideal.log n3)

/-- The token of a row: the first place where its rank is greatest. -/
theorem pick_at (ha : Held W (argmax0Ops t_v33 main_call3)) (R : Fin 128) (r : Nat → EReal)
    (hr : ∀ C : Fin 100000, r C.val = (W (Proc.devRef .tc main_v33) : S128x100000.Idx → EReal) (ix2 R C)) :
    FirstMax r 100000 (BitVec.toNat (w := 32) ((W (Proc.devRef .tc main_v34) : S128.Idx → BitVec 32) (ix1 R))) := by
  obtain ⟨e1, ha⟩ := ha.cons
  obtain ⟨e2, ha⟩ := ha.cons
  obtain ⟨e3, ha⟩ := ha.cons
  obtain ⟨-, ha⟩ := ha.cons
  obtain ⟨e5, -⟩ := ha.cons
  have k1 := nullary_eq e1
  have k2 := nullary_eq e2
  have k3 := nullary_eq e3
  have k5 := quaternary_eq e5
  rw [k1] at k5
  have k : (W (Proc.devRef .tc main_v34) : S128.Idx → BitVec 32) (ix1 R)
      = (Host.argReduce (F := Ideal) (φ := .f32) reducer_argmax_f32_i32 (W (Proc.devRef .tc main_v33) : S128x100000.Idx → EReal)
        (iotaInDim S128x100000 32 1) (val W main_call3.cst) (val W main_call3.c) reducesTo_S128x100000_S128_d1 h_S_ (ix1 R)).2 := congrFun k5 (ix1 R)
  rw [k]
  refine argmax_first _ _ _ (fun z => ?_) (fun z => ?_) R r hr
  · rw [k2]
    change Ideal.ofBits .f32 0xFF800000#32 = ⊥
    simp [Ideal.ofBits, Ideal.ieee]
  · rw [k3]
    rfl

/-- The last choice takes the sampled token. -/
theorem cold_at (hc : Held W coldOps) (hs : Held W [ternary t_v36 t_v0 t_v34 main_call4.v0 select]) (hT : ∀ R, tempsOf W R ≠ 0) (R : S128.Idx) :
    (W (Proc.devRef .tc main_v37) : S128.Idx → BitVec 32) R = (W (Proc.devRef .tc main_v34) : S128.Idx → BitVec 32) R := by
  obtain ⟨e1, hc⟩ := hc.cons
  obtain ⟨e2, hc⟩ := hc.cons
  obtain ⟨e3, -⟩ := hc.cons
  obtain ⟨e, -⟩ := hs.cons
  have k1 := plain_nullary_eq e1
  have k2 := plain_unary_eq e2
  have k3 := plain_binary_eq e3
  have k := ternary_eq e
  rw [k1] at k2
  rw [k2] at k3
  have c : (W (Proc.devRef .tc main_v36) : S128.Idx → BitVec 1) R = 0#1 := (congrFun k3 R).trans (oeq_ne (hT R))
  refine (congrFun k R).trans ?_
  change Scalar.select ((W (Proc.devRef .tc main_v36) : S128.Idx → BitVec 1) R) _ _ = _
  rw [c]
  rfl

/-- Both results of the reference. -/
theorem results_at (h : Held W mainOps) (hT : ∀ R, tempsOf W R ≠ 0) (R : Fin 128) :
    (∀ C : Fin 100000, (W (Proc.devRef .tc main_v18) : S128x100000.Idx → EReal) (ix2 R C)
        = Ideal.div (Ideal.exp (scaledOf W R C - max ⊥ ((Finset.univ : Finset (Fin 100000)).fold max ⊥ (scaledOf W R))))
          (0 + ∑ k : Fin 100000, Ideal.exp (scaledOf W R k - max ⊥ ((Finset.univ : Finset (Fin 100000)).fold max ⊥ (scaledOf W R)))))
      ∧ ∀ r : Nat → EReal, (∀ C : Fin 100000, r C.val = noise (BitVec.ofNat 32 (100000 * R.val + C.val)) + scaledOf W R C) →
        FirstMax r 100000 (BitVec.toNat (w := 32) ((W (Proc.devRef .tc main_v37) : S128.Idx → BitVec 32) (ix1 R))) := by
  obtain ⟨-, h⟩ := h.append
  obtain ⟨hz, h⟩ := h.append
  obtain ⟨hs, h⟩ := h.append
  obtain ⟨hp, h⟩ := h.append
  obtain ⟨hk, h⟩ := h.append
  obtain ⟨hu, h⟩ := h.append
  obtain ⟨hr, h⟩ := h.append
  obtain ⟨ha, h⟩ := h.append
  obtain ⟨hc, hl⟩ := h.append
  have h4 := temp_at hz hs hT
  obtain ⟨g1, g2, g3⟩ := key_at hk
  refine ⟨fun C => (probs_at hp h4 R C).2, fun r hr' => ?_⟩
  rw [cold_at hc hl hT]
  refine pick_at ha R r fun C => (hr' C).trans ?_
  exact (rank_at hr _ (ix2 R C) _ (uniform_at hu g1 g2 g3 (ix2 R C)) (probs_at hp h4 R C).1).symm

end Cert.Proof.Ref

end
-- ==== Proof.Values.lean ====
/- Hand-written, untrusted: the kernel's results are the reference's, over the extended reals, where every logit is finite
   and no temperature is 0. -/
module

public import proofs.«01_k».proof.Proof.Softmax
public import proofs.«01_k».proof.Proof.Frames
public import proofs.«01_k».proof.Proof.RefValue

@[expose] public section

noncomputable section

namespace Cert.Proof

open Idealize.SL.Sem
open Idealize.ShloMosaic hiding ix1 ix2 ix3 eq_ix2
open Idealize.ShloMosaic.TcCoe Idealize.ShloMosaic.ValueIdx

section Kernel

open Cert.KernelIdeal Cert.KernelIdeal.Gen

variable (m : (ℓ : Loc nD τ sig) → Buf (Elt Ideal) ℓ) (c : Dev nD)

/-- The arrays' buffers are distinct. -/
theorem arrays_distinct : Function.Injective (Pipeline.arrRef spec0) := by decide

/-- The kernel program's tokens are its region's, as a vector. -/
theorem tokens_reshaped (R : Fin 128) :
    (Pipeline.afterTail₀ cfgs (dats m) 0 (V0 m) [hostOps1] c main_v2 : S128.Idx → BitVec 32) (ix1 R)
      = ((dats m 0 c).arrAt 3 cfg0.N : S128x1.Idx → BitVec 32) (ix2 R 0) := by
  have h : (Pipeline.afterTail₀ cfgs (dats m) 0 (V0 m) [hostOps1] c main_v2 : S128.Idx → BitVec 32)
      = shapeCast S128 ((Pipeline.withArrays spec0 c (V0 m c) (fun w => (dats m 0 c).arrAt w cfg0.N) (Proc.devRef .tc (Pipeline.arrRef spec0 3)) : S128x1.Idx → BitVec 32))
        shapeCasts_S128x1_S128 := by
    delta Pipeline.afterTail₀
    rfl
  rw [h, Pipeline.withArrays_arr spec0 arrays_distinct]
  exact shapeCast_apply _ _ (ix1 R) (ix2 R 0) rfl

/-- A row's exponentials, at its columns. -/
theorem exps_at (R : Fin 128) (C : Fin 100000) :
    exps m c R C.val = Ideal.exp (Ideal.div (logits m c (ix2 R C)) (temps m c (ix1 R))) := by
  unfold exps expOf rowOf
  rw [if_pos C.isLt, dif_pos C.isLt]

/-- Past the last column the exponentials are 0. -/
theorem exps_out (R : Fin 128) (C : Nat) (h : 100000 ≤ C) : exps m c R C = 0 := by
  unfold exps expOf
  rw [if_neg (not_lt.2 h)]

/-- A row's ranks, at its columns. -/
theorem ranks_at (R : Fin 128) (C : Fin 100000) :
    ranks m c R C.val = noise (BitVec.ofNat 32 (100000 * R.val + C.val)) + Ideal.div (logits m c (ix2 R C)) (temps m c (ix1 R)) := by
  unfold ranks rankOf rowOf
  rw [if_pos C.isLt, dif_pos C.isLt]

end Kernel

open Cert.KernelIdeal Cert.KernelIdeal.Gen

variable (m : (ℓ : Loc nD τ sig) → Buf (Elt Ideal) ℓ)
  (m' : (ℓ : Loc ReferenceIdeal.nD ReferenceIdeal.τ ReferenceIdeal.sig) → Buf (Elt Ideal) ℓ) (c : Dev nD)

/-- The arguments agree, every logit is finite and no temperature is 0. -/
structure Given : Prop where
  logits : Ref.logitsOf (Ref.final m' c) = logits m c
  temps : Ref.tempsOf (Ref.final m' c) = temps m c
  finite : ∀ z, ∃ r : ℝ, (Cert.Proof.logits m c z : EReal) = r
  warm : ∀ R, (Cert.Proof.temps m c R : EReal) ≠ 0

variable {m m' c}

/-- The scaled logits are the kernel's. -/
theorem Given.scaled (h : Given m m' c) (R : Fin 128) (C : Fin 100000) :
    Ref.scaledOf (Ref.final m' c) R C = Ideal.div (Cert.Proof.logits m c (ix2 R C)) (Cert.Proof.temps m c (ix1 R)) := by
  unfold Ref.scaledOf
  rw [h.logits, h.temps]

/-- The probabilities are equal, element by element, -/
theorem Given.prob (h : Given m m' c) (R : Fin 128) (C : Fin 100000) :
    (Ref.final m' c (Proc.devRef .tc ReferenceIdeal.main_v18) : S128x100000.Idx → EReal) (ix2 R C)
      = exps m c R C.val * Ideal.div 1 (laneSum m c R) := by
  have hw : ∀ R, Ref.tempsOf (Ref.final m' c) R ≠ 0 := fun R => by rw [h.temps]; exact h.warm R
  refine ((Ref.results_at (Ref.final_held m' c) hw R).1 C).trans ?_
  refine (softmax_shift (by norm_num) (Ref.scaledOf (Ref.final m' c) R) (fun k => ?_) C).trans ?_
  · rw [h.scaled]
    exact real_div (h.finite _) (h.warm _)
  · have e : ∀ C : Fin 100000, Ideal.exp (Ref.scaledOf (Ref.final m' c) R C) = exps m c R C.val := fun C => by
      rw [h.scaled, exps_at]
    have s : laneSum m c R = ∑ C : Fin 100000, exps m c R C.val := lanes_total (exps m c R) (exps_out m c R)
    rw [s, e C, Finset.sum_congr rfl fun C _ => e C]

/-- so the arrays are. -/
theorem Given.probs (h : Given m m' c) :
    (Ref.final m' c (Proc.devRef .tc ReferenceIdeal.main_v18) : S128x100000.Idx → EReal) = ((dats m 0 c).arrAt 2 cfg0.N : S128x100000.Idx → EReal) := by
  funext z
  obtain ⟨R, C, rfl⟩ : ∃ (R : Fin 128) (C : Fin 100000), z = ix2 R C := ⟨z 0, z 1, eq_ix2 z⟩
  exact (h.prob R C).trans (probs_arr m c (ix2 R C)).symm

/-- The tokens are equal. -/
theorem Given.tokens (h : Given m m' c) :
    (Ref.final m' c (Proc.devRef .tc ReferenceIdeal.main_v37) : S128.Idx → BitVec 32)
      = (Pipeline.afterTail₀ cfgs (dats m) 0 (V0 m) [hostOps1] c main_v2 : S128.Idx → BitVec 32) := by
  funext y
  obtain ⟨R, rfl⟩ : ∃ R : Fin 128, y = ix1 R := ⟨y 0, ValueIdx.eq_ix1 y⟩
  rw [tokens_reshaped m c R]
  have hw : ∀ R, Ref.tempsOf (Ref.final m' c) R ≠ 0 := fun R => by rw [h.temps]; exact h.warm R
  have hr := (Ref.results_at (Ref.final_held m' c) hw R).2 (ranks m c R) fun C => by rw [ranks_at, h.scaled]
  exact BitVec.eq_of_toNat_eq (hr.unique (toks_arr m c (ix2 R 0)))

end Cert.Proof

end
-- ==== Proof.lean ====
/- Hand-written, untrusted: the proof of `Cert.Claim`. The frames are Proof/Frames.lean's (the kernel) and
   Proof/RefRun.lean's (the reference); that the results are equal is Proof/Values.lean's. -/
module

public import proofs.«01_k».proof.Defs
public import proofs.«01_k».proof.Proof.Values

@[expose] public section

noncomputable section

namespace Cert.Proof

open Idealize.ShloMosaic Idealize.SL.Sem

/-- Where every logit is finite and no temperature is 0 the kernel's tokens and probabilities are the reference's. -/
theorem algebraic : Cert.algebraic_KernelIdeal_ReferenceIdeal_pre_finite_logits_warm_temperatures (hKernelIdeal := Cert.KernelIdeal.Gen.facts)
    (hReferenceIdeal := Cert.ReferenceIdeal.Gen.facts) (hPre_finite_logits_warm_temperatures := preFacts) := by
  intro m g m' g' hpre hargs
  have hg : ∀ c, Given m m' c := fun c =>
    have hp := @pre_says preFacts _ _ (hpre c)
    ⟨(Ref.final_arg0 m' c).trans (hargs c).1, (Ref.final_arg1 m' c).trans (hargs c).2, hp.1, hp.2⟩
  refine ⟨fun c => Pipeline.afterTail₀ KernelIdeal.cfgs (dats m) 0 (KernelIdeal.Gen.V0 m) [KernelIdeal.Gen.hostOps1] c KernelIdeal.main_v2,
    fun c => (dats m 0 c).arrAt 2 KernelIdeal.cfg0.N, ?_, ?_⟩
  · refine (θ_run _ _ _).mono (fun r h c => ⟨?_, ?_, args_kept m h.1 c⟩) (run_main m g)
    · exact (h.1 c).2 KernelIdeal.main_v2 (Pipeline.mem_restRefs_of KernelIdeal.main_v2 (by decide) (by decide))
    · exact (h.1 c).1 2
  · refine (θ_run _ _ _).mono (fun r h c => ⟨?_, ?_, (h.1 c ReferenceIdeal.main_arg0).trans (Ref.final_arg0 m' c),
      (h.1 c ReferenceIdeal.main_arg1).trans (Ref.final_arg1 m' c)⟩) (Ref.run_main m' g')
    · exact (h.1 c ReferenceIdeal.main_v37).trans (hg c).tokens
    · exact (h.1 c ReferenceIdeal.main_v18).trans (hg c).probs

/-- Everything claimed: the frames, with and without the precondition, and the equality of the results. -/
theorem claim : Cert.Claim :=
  ⟨Cert.Kernel.Gen.facts, Cert.KernelIdeal.Gen.facts, Cert.ReferenceIdeal.Gen.facts, preFacts,
    fun m g _ => frame_printed m g, fun m g _ => frame_main m g, fun m g _ => frame_main m g, fun m g _ => Ref.frame m g,
    fun m g _ => Ref.frame m g, trivial, algebraic⟩

end Cert.Proof

end
